-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_ok [hPre_scales_ok : Cert.Pre_scales_ok.Facts] (m : (ℓ : Loc Cert.KernelIdeal.nD Cert.KernelIdeal.τ Cert.KernelIdeal.sig) → Buf (Elt Ideal) ℓ) : Prop :=
  ∀ c : Dev Cert.KernelIdeal.nD,
    (Cert.Pre_scales_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_ok [hPre_scales_ok : Cert.Pre_scales_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_ok [hKernelIdeal : Cert.KernelIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_ok [hReferenceIdeal : Cert.ReferenceIdeal.Facts] [hPre_scales_ok : Cert.Pre_scales_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e_scale" .f32 0x3E0293EE#32 (((Real.sqrt 128)⁻¹ * (Real.log 2)⁻¹ : ℝ) : EReal)

def algebraic_KernelIdeal_ReferenceIdeal_pre_scales_ok [hKernelIdeal : Cert.KernelIdeal.Facts] [hReferenceIdeal : Cert.ReferenceIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_ok : Cert.Pre_scales_ok.Facts),
    quiescent_Kernel (hKernel := hKernel)
    ∧ quiescent_KernelIdeal (hKernelIdeal := hKernelIdeal)
    ∧ quiescent_KernelIdeal_pre_scales_ok (hKernelIdeal := hKernelIdeal) (hPre_scales_ok := hPre_scales_ok)
    ∧ quiescent_ReferenceIdeal (hReferenceIdeal := hReferenceIdeal)
    ∧ quiescent_ReferenceIdeal_pre_scales_ok (hReferenceIdeal := hReferenceIdeal) (hPre_scales_ok := hPre_scales_ok)
    ∧ preserves_Kernel_KernelIdeal
    ∧ algebraic_KernelIdeal_ReferenceIdeal_pre_scales_ok (hKernelIdeal := hKernelIdeal) (hReferenceIdeal := hReferenceIdeal) (hPre_scales_ok := hPre_scales_ok)
-- ==== Pre_scales_ok.lean ====
abbrev S2x1024x24x128 : Shape := ⟨4, ![2, 1024, 24, 128]⟩
abbrev S2x1024x24x4 : Shape := ⟨4, ![2, 1024, 24, 4]⟩
abbrev S2x1024x8x128 : Shape := ⟨4, ![2, 1024, 8, 128]⟩
abbrev S2x1024x8x4 : Shape := ⟨4, ![2, 1024, 8, 4]⟩
abbrev S2x32x8x128 : Shape := ⟨4, ![2, 32, 8, 128]⟩
abbrev S_ : Shape := ⟨0, ![]⟩

class Facts : Prop where
  bcast_S_S2x1024x24x4 : S_.BroadcastsInDim S2x1024x24x4 (![] : Fin 0 → Fin S2x1024x24x4.rank)
  reducesTo_S2x1024x24x4_S_d0_1_2_3 : S2x1024x24x4.ReducesTo [0, 1, 2, 3] S_
  h_S_ : 0 < S_.numel
  bcast_S_S2x1024x8x4 : S_.BroadcastsInDim S2x1024x8x4 (![] : Fin 0 → Fin S2x1024x8x4.rank)
  reducesTo_S2x1024x8x4_S_d0_1_2_3 : S2x1024x8x4.ReducesTo [0, 1, 2, 3] S_
  bcast_S_S2x32x8x128 : S_.BroadcastsInDim S2x32x8x128 (![] : Fin 0 → Fin S2x32x8x128.rank)
  reducesTo_S2x32x8x128_S_d0_1_2_3 : S2x32x8x128.ReducesTo [0, 1, 2, 3] S_

variable [Facts]

def fn_part1 {F : FTy → Type} [FloatOps F] (main_arg5 : IVec S2x32x8x128 8) (main_v12 : IVec S_ 1) (main_v14 : IVec S2x32x8x128 1) (main_v15 : IVec S2x32x8x128 8) : IVec S_ 1 :=
  let main_v16 : IVec S2x32x8x128 1 := cmpi .ule main_arg5 main_v15
  let main_v17 : IVec S2x32x8x128 1 := andi main_v14 main_v16
  let main_c_7 : IVec S_ 1 := constantI S_ 1 1#1
  let main_v18 : IVec S_ 1 := (fun x v => Host.reduce IntOp.andi x v reducesTo_S2x32x8x128_S_d0_1_2_3 h_S_) main_v17 main_c_7
  let main_v19 : IVec S_ 1 := andi main_v12 main_v18
  main_v19

def fn {F : FTy → Type} [FloatOps F] (main_arg0 : FVec F S2x1024x24x128 .fp8e4m3) (main_arg1 : IVec S2x1024x24x4 8) (main_arg2 : FVec F S2x1024x8x128 .fp8e4m3) (main_arg3 : IVec S2x1024x8x4 8) (main_arg4 : FVec F S2x1024x8x128 .fp8e4m3) (main_arg5 : IVec S2x32x8x128 8) : IVec S_ 1 :=
  let main_c : IVec S_ 8 := constantI S_ 8 1#8
  let main_v0 : IVec S2x1024x24x4 8 := broadcastInDim S2x1024x24x4 ![] bcast_S_S2x1024x24x4 main_c
  let main_v1 : IVec S2x1024x24x4 1 := cmpi .uge main_arg1 main_v0
  let main_c_0 : IVec S_ 8 := constantI S_ 8 254#8
  let main_v2 : IVec S2x1024x24x4 8 := broadcastInDim S2x1024x24x4 ![] bcast_S_S2x1024x24x4 main_c_0
  let main_v3 : IVec S2x1024x24x4 1 := cmpi .ule main_arg1 main_v2
  let main_v4 : IVec S2x1024x24x4 1 := andi main_v1 main_v3
  let main_c_1 : IVec S_ 1 := constantI S_ 1 1#1
  let main_v5 : IVec S_ 1 := (fun x v => Host.reduce IntOp.andi x v reducesTo_S2x1024x24x4_S_d0_1_2_3 h_S_) main_v4 main_c_1
  let main_c_2 : IVec S_ 8 := constantI S_ 8 1#8
  let main_v6 : IVec S2x1024x8x4 8 := broadcastInDim S2x1024x8x4 ![] bcast_S_S2x1024x8x4 main_c_2
  let main_v7 : IVec S2x1024x8x4 1 := cmpi .uge main_arg3 main_v6
  let main_c_3 : IVec S_ 8 := constantI S_ 8 254#8
  let main_v8 : IVec S2x1024x8x4 8 := broadcastInDim S2x1024x8x4 ![] bcast_S_S2x1024x8x4 main_c_3
  let main_v9 : IVec S2x1024x8x4 1 := cmpi .ule main_arg3 main_v8
  let main_v10 : IVec S2x1024x8x4 1 := andi main_v7 main_v9
  let main_c_4 : IVec S_ 1 := constantI S_ 1 1#1
  let main_v11 : IVec S_ 1 := (fun x v => Host.reduce IntOp.andi x v reducesTo_S2x1024x8x4_S_d0_1_2_3 h_S_) main_v10 main_c_4
  let main_v12 : IVec S_ 1 := andi main_v5 main_v11
  let main_c_5 : IVec S_ 8 := constantI S_ 8 1#8
  let main_v13 : IVec S2x32x8x128 8 := broadcastInDim S2x32x8x128 ![] bcast_S_S2x32x8x128 main_c_5
  let main_v14 : IVec S2x32x8x128 1 := cmpi .uge main_arg5 main_v13
  let main_c_6 : IVec S_ 8 := constantI S_ 8 254#8
  let main_v15 : IVec S2x32x8x128 8 := broadcastInDim S2x32x8x128 ![] bcast_S_S2x32x8x128 main_c_6
  fn_part1 (F := F) main_arg5 main_v12 main_v14 main_v15
-- ==== Kernel.lean ====
abbrev S2x1024x24x128 : Shape := ⟨4, ![2, 1024, 24, 128]⟩
abbrev S2x1024x24x4 : Shape := ⟨4, ![2, 1024, 24, 4]⟩
abbrev S2x1024x8x128 : Shape := ⟨4, ![2, 1024, 8, 128]⟩
abbrev S2x1024x8x4 : Shape := ⟨4, ![2, 1024, 8, 4]⟩
abbrev S2x32x8x128 : Shape := ⟨4, ![2, 32, 8, 128]⟩
abbrev S2x24x1024x128 : Shape := ⟨4, ![2, 24, 1024, 128]⟩
abbrev S2x8x1024x128 : Shape := ⟨4, ![2, 8, 1024, 128]⟩
abbrev S2x24x4x1024 : Shape := ⟨4, ![2, 24, 4, 1024]⟩
abbrev S2x8x4x1024 : Shape := ⟨4, ![2, 8, 4, 1024]⟩
abbrev S2x8x32x128 : Shape := ⟨4, ![2, 8, 32, 128]⟩
abbrev S2x1024x3072 : Shape := ⟨3, ![2, 1024, 3072]⟩
abbrev S1x3x1024x128 : Shape := ⟨4, ![1, 3, 1024, 128]⟩
abbrev S1x3x4x1024 : Shape := ⟨4, ![1, 3, 4, 1024]⟩
abbrev S1x1x1024x128 : Shape := ⟨4, ![1, 1, 1024, 128]⟩
abbrev S1x1x4x1024 : Shape := ⟨4, ![1, 1, 4, 1024]⟩
abbrev S1x1x32x128 : Shape := ⟨4, ![1, 1, 32, 128]⟩
abbrev S1x1024x384 : Shape := ⟨3, ![1, 1024, 384]⟩
abbrev S3x128x1024 : Shape := ⟨3, ![3, 128, 1024]⟩
abbrev S1024x128 : Shape := ⟨2, ![1024, 128]⟩
abbrev S128x1024 : Shape := ⟨2, ![128, 1024]⟩
abbrev S2x1024x256 : Shape := ⟨3, ![2, 1024, 256]⟩
abbrev S2x2x256x128 : Shape := ⟨4, ![2, 2, 256, 128]⟩
abbrev S2x2x32x128 : Shape := ⟨4, ![2, 2, 32, 128]⟩
abbrev S4x1024 : Shape := ⟨2, ![4, 1024]⟩
abbrev S4x1x1024 : Shape := ⟨3, ![4, 1, 1024]⟩
abbrev S4x32x1024 : Shape := ⟨3, ![4, 32, 1024]⟩
abbrev S32x128 : Shape := ⟨2, ![32, 128]⟩
abbrev S32x1x128 : Shape := ⟨3, ![32, 1, 128]⟩
abbrev S32x32x128 : Shape := ⟨3, ![32, 32, 128]⟩
abbrev S1x128x1024 : Shape := ⟨3, ![1, 128, 1024]⟩
abbrev S1x128x256 : Shape := ⟨3, ![1, 128, 256]⟩
abbrev S128x256 : Shape := ⟨2, ![128, 256]⟩
abbrev S256x128 : Shape := ⟨2, ![256, 128]⟩
abbrev S256x256 : Shape := ⟨2, ![256, 256]⟩
abbrev S1x256x256 : Shape := ⟨3, ![1, 256, 256]⟩
abbrev S8x4x8x256 : Shape := ⟨4, ![8, 4, 8, 256]⟩
abbrev S8x8x256 : Shape := ⟨3, ![8, 8, 256]⟩
abbrev S64x256 : Shape := ⟨2, ![64, 256]⟩
abbrev S64x128 : Shape := ⟨2, ![64, 128]⟩
abbrev S1x1x64x128 : Shape := ⟨4, ![1, 1, 64, 128]⟩
abbrev S1x1x8x128 : Shape := ⟨4, ![1, 1, 8, 128]⟩
abbrev S8x128 : Shape := ⟨2, ![8, 128]⟩
abbrev S128 : Shape := ⟨1, ![128]⟩
abbrev S1x128 : Shape := ⟨2, ![1, 128]⟩
abbrev S1x32x128 : Shape := ⟨3, ![1, 32, 128]⟩
abbrev S4x8x128 : Shape := ⟨3, ![4, 8, 128]⟩
abbrev S126x8x128 : Shape := ⟨3, ![126, 8, 128]⟩
abbrev S1x8x128 : Shape := ⟨3, ![1, 8, 128]⟩
abbrev S1x1x1x128 : Shape := ⟨4, ![1, 1, 1, 128]⟩
abbrev S16x128 : Shape := ⟨2, ![16, 128]⟩
abbrev S1x256x128 : Shape := ⟨3, ![1, 256, 128]⟩
abbrev S1x1x16x128 : Shape := ⟨4, ![1, 1, 16, 128]⟩
abbrev S126x16x128 : Shape := ⟨3, ![126, 16, 128]⟩
abbrev S1x16x128 : Shape := ⟨3, ![1, 16, 128]⟩
abbrev S128x512 : Shape := ⟨2, ![128, 512]⟩
abbrev S1x512x256 : Shape := ⟨3, ![1, 512, 256]⟩
abbrev S512x256 : Shape := ⟨2, ![512, 256]⟩
abbrev S1x1x24x128 : Shape := ⟨4, ![1, 1, 24, 128]⟩
abbrev S24x128 : Shape := ⟨2, ![24, 128]⟩
abbrev S126x24x128 : Shape := ⟨3, ![126, 24, 128]⟩
abbrev S1x24x128 : Shape := ⟨3, ![1, 24, 128]⟩
abbrev S128x768 : Shape := ⟨2, ![128, 768]⟩
abbrev S1x768x256 : Shape := ⟨3, ![1, 768, 256]⟩
abbrev S768x256 : Shape := ⟨2, ![768, 256]⟩
abbrev S126x32x128 : Shape := ⟨3, ![126, 32, 128]⟩
abbrev S1x1024x256 : Shape := ⟨3, ![1, 1024, 256]⟩
abbrev S1024x256 : Shape := ⟨2, ![1024, 256]⟩

abbrev nBuf : Space → Nat
  | .hbm => 13
  | .vmem => 22
  | .smem => 0
  | _ => 0

abbrev bufTy : (tb : Table) → Fin (tcTables nBuf tb) → BufTy
  | .hbm, ⟨0, _⟩ => ⟨S2x1024x24x128, .fp8e4m3⟩
  | .hbm, ⟨1, _⟩ => ⟨S2x1024x24x4, .i8⟩
  | .hbm, ⟨2, _⟩ => ⟨S2x1024x8x128, .fp8e4m3⟩
  | .hbm, ⟨3, _⟩ => ⟨S2x1024x8x4, .i8⟩
  | .hbm, ⟨4, _⟩ => ⟨S2x1024x8x128, .fp8e4m3⟩
  | .hbm, ⟨5, _⟩ => ⟨S2x32x8x128, .i8⟩
  | .hbm, ⟨6, _⟩ => ⟨S2x24x1024x128, .fp8e4m3⟩
  | .hbm, ⟨7, _⟩ => ⟨S2x8x1024x128, .fp8e4m3⟩
  | .hbm, ⟨8, _⟩ => ⟨S2x8x1024x128, .fp8e4m3⟩
  | .hbm, ⟨9, _⟩ => ⟨S2x24x4x1024, .i8⟩
  | .hbm, ⟨10, _⟩ => ⟨S2x8x4x1024, .i8⟩
  | .hbm, ⟨11, _⟩ => ⟨S2x8x32x128, .i8⟩
  | .hbm, ⟨12, _⟩ => ⟨S2x1024x3072, .bf16⟩
  | .local _ .vmem, ⟨0, _⟩ => ⟨S1x3x1024x128, .fp8e4m3⟩
  | .local _ .vmem, ⟨1, _⟩ => ⟨S1x3x1024x128, .fp8e4m3⟩
  | .local _ .vmem, ⟨2, _⟩ => ⟨S1x3x4x1024, .i8⟩
  | .local _ .vmem, ⟨3, _⟩ => ⟨S1x3x4x1024, .i8⟩
  | .local _ .vmem, ⟨4, _⟩ => ⟨S1x1x1024x128, .fp8e4m3⟩
  | .local _ .vmem, ⟨5, _⟩ => ⟨S1x1x1024x128, .fp8e4m3⟩
  | .local _ .vmem, ⟨6, _⟩ => ⟨S1x1x4x1024, .i8⟩
  | .local _ .vmem, ⟨7, _⟩ => ⟨S1x1x4x1024, .i8⟩
  | .local _ .vmem, ⟨8, _⟩ => ⟨S1x1x1024x128, .fp8e4m3⟩
  | .local _ .vmem, ⟨9, _⟩ => ⟨S1x1x1024x128, .fp8e4m3⟩
  | .local _ .vmem, ⟨10, _⟩ => ⟨S1x1x32x128, .i8⟩
  | .local _ .vmem, ⟨11, _⟩ => ⟨S1x1x32x128, .i8⟩
  | .local _ .vmem, ⟨12, _⟩ => ⟨S1x1024x384, .bf16⟩
  | .local _ .vmem, ⟨13, _⟩ => ⟨S1x1024x384, .bf16⟩
  | .local _ .vmem, ⟨14, _⟩ => ⟨S3x128x1024, .bf16⟩
  | .local _ .vmem, ⟨15, _⟩ => ⟨S1024x128, .bf16⟩
  | .local _ .vmem, ⟨16, _⟩ => ⟨S128x1024, .bf16⟩
  | .local _ .vmem, ⟨17, _⟩ => ⟨S2x1024x256, .f32⟩
  | .local _ .vmem, ⟨18, _⟩ => ⟨S2x2x256x128, .f32⟩
  | .local _ .vmem, ⟨19, _⟩ => ⟨S2x2x32x128, .f32⟩
  | .local _ .vmem, ⟨20, _⟩ => ⟨S2x2x32x128, .i32⟩
  | .local _ .vmem, ⟨21, _⟩ => ⟨S2x1024x256, .bf16⟩
  | _, _ => ⟨S2x1024x24x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x1024x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x32x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e_scale" => some (((Real.sqrt 128)⁻¹ * (Real.log 2)⁻¹ : ℝ) : EReal)
  | _ => none
-- ==== ReferenceIdeal.lean ====
abbrev S2x1024x24x128 : Shape := ⟨4, ![2, 1024, 24, 128]⟩
abbrev S2x1024x24x4 : Shape := ⟨4, ![2, 1024, 24, 4]⟩
abbrev S2x1024x8x128 : Shape := ⟨4, ![2, 1024, 8, 128]⟩
abbrev S2x1024x8x4 : Shape := ⟨4, ![2, 1024, 8, 4]⟩
abbrev S2x32x8x128 : Shape := ⟨4, ![2, 32, 8, 128]⟩
abbrev S2x24x1024x128 : Shape := ⟨4, ![2, 24, 1024, 128]⟩
abbrev S16x3072x128 : Shape := ⟨3, ![16, 3072, 128]⟩
abbrev S2x24x1024x4 : Shape := ⟨4, ![2, 24, 1024, 4]⟩
abbrev S16x3072x4 : Shape := ⟨3, ![16, 3072, 4]⟩
abbrev S2x8x1024x128 : Shape := ⟨4, ![2, 8, 1024, 128]⟩
abbrev S16x1024x128 : Shape := ⟨3, ![16, 1024, 128]⟩
abbrev S2x8x1024x4 : Shape := ⟨4, ![2, 8, 1024, 4]⟩
abbrev S16x1024x4 : Shape := ⟨3, ![16, 1024, 4]⟩
abbrev S2x8x32x128 : Shape := ⟨4, ![2, 8, 32, 128]⟩
abbrev S16x32x128 : Shape := ⟨3, ![16, 32, 128]⟩
abbrev S2x1024x3072 : Shape := ⟨3, ![2, 1024, 3072]⟩
abbrev S16x3072x4x32 : Shape := ⟨4, ![16, 3072, 4, 32]⟩
abbrev S16x3072x4x1 : Shape := ⟨4, ![16, 3072, 4, 1]⟩
abbrev S16x1024x4x32 : Shape := ⟨4, ![16, 1024, 4, 32]⟩
abbrev S16x1024x4x1 : Shape := ⟨4, ![16, 1024, 4, 1]⟩
abbrev S16x32x32x128 : Shape := ⟨4, ![16, 32, 32, 128]⟩
abbrev S16x32x1x128 : Shape := ⟨4, ![16, 32, 1, 128]⟩
abbrev S16x3072x1024 : Shape := ⟨3, ![16, 3072, 1024]⟩
abbrev S16x3x1024x1024 : Shape := ⟨4, ![16, 3, 1024, 1024]⟩
abbrev S16x3072 : Shape := ⟨2, ![16, 3072]⟩
abbrev S16x3072x1 : Shape := ⟨3, ![16, 3072, 1]⟩
abbrev S16x3072x32x32 : Shape := ⟨4, ![16, 3072, 32, 32]⟩
abbrev S16x3072x32 : Shape := ⟨3, ![16, 3072, 32]⟩
abbrev S16x3072x32x1 : Shape := ⟨4, ![16, 3072, 32, 1]⟩
abbrev S2x8x3x1024x128 : Shape := ⟨5, ![2, 8, 3, 1024, 128]⟩
abbrev S2x1024x8x3x128 : Shape := ⟨5, ![2, 1024, 8, 3, 128]⟩

abbrev nBuf : Space → Nat
  | .hbm => 19
  | .vmem => 7
  | .smem => 0
  | _ => 0

abbrev bufTy : (tb : Table) → Fin (tcTables nBuf tb) → BufTy
  | .hbm, ⟨0, _⟩ => ⟨S2x1024x24x128, .fp8e4m3⟩
  | .hbm, ⟨1, _⟩ => ⟨S2x1024x24x4, .i8⟩
  | .hbm, ⟨2, _⟩ => ⟨S2x1024x8x128, .fp8e4m3⟩
  | .hbm, ⟨3, _⟩ => ⟨S2x1024x8x4, .i8⟩
  | .hbm, ⟨4, _⟩ => ⟨S2x1024x8x128, .fp8e4m3⟩
  | .hbm, ⟨5, _⟩ => ⟨S2x32x8x128, .i8⟩
  | .hbm, ⟨6, _⟩ => ⟨S2x24x1024x128, .fp8e4m3⟩
  | .hbm, ⟨7, _⟩ => ⟨S16x3072x128, .fp8e4m3⟩
  | .hbm, ⟨8, _⟩ => ⟨S2x24x1024x4, .i8⟩
  | .hbm, ⟨9, _⟩ => ⟨S16x3072x4, .i8⟩
  | .hbm, ⟨10, _⟩ => ⟨S2x8x1024x128, .fp8e4m3⟩
  | .hbm, ⟨11, _⟩ => ⟨S16x1024x128, .fp8e4m3⟩
  | .hbm, ⟨12, _⟩ => ⟨S2x8x1024x4, .i8⟩
  | .hbm, ⟨13, _⟩ => ⟨S16x1024x4, .i8⟩
  | .hbm, ⟨14, _⟩ => ⟨S2x8x1024x128, .fp8e4m3⟩
  | .hbm, ⟨15, _⟩ => ⟨S16x1024x128, .fp8e4m3⟩
  | .hbm, ⟨16, _⟩ => ⟨S2x8x32x128, .i8⟩
  | .hbm, ⟨17, _⟩ => ⟨S16x32x128, .i8⟩
  | .hbm, ⟨18, _⟩ => ⟨S2x1024x3072, .bf16⟩
  | .local _ .vmem, ⟨0, _⟩ => ⟨S16x3072x128, .fp8e4m3⟩
  | .local _ .vmem, ⟨1, _⟩ => ⟨S16x3072x4, .i8⟩
  | .local _ .vmem, ⟨2, _⟩ => ⟨S16x1024x128, .fp8e4m3⟩
  | .local _ .vmem, ⟨3, _⟩ => ⟨S16x1024x4, .i8⟩
  | .local _ .vmem, ⟨4, _⟩ => ⟨S16x1024x128, .fp8e4m3⟩
  | .local _ .vmem, ⟨5, _⟩ => ⟨S16x32x128, .i8⟩
  | .local _ .vmem, ⟨6, _⟩ => ⟨S2x1024x3072, .bf16⟩
  | _, _ => ⟨S2x1024x24x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "scale" => some (((Real.sqrt 128)⁻¹ : ℝ) : EReal)
  | _ => none

abbrev grid0 : Pipeline.Grid := .none

abbrev stage0_0 : Fin 1 → Memref sig .tc .vmem S16x3072x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x3072x4 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1024x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024x4 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1024x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x32x128 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KProg.lean ====
/- The kernel's body as a program with loops: one unit of work per query tile and query head, in each the score tiles, the
   two halves of the lanes (the softmax pass and the quantising pass, a block of 32 keys a step) and the output tile. The
   values between the memory operations are named here once, whatever the block, tile, head and half. -/
module

public import proofs.«01_k».proof.Proof.Gen.KernelIdeal.Skeleton

@[expose] public section

noncomputable section

namespace Cert.KernelIdeal

open Idealize.ShloMosaic Idealize.SL.Sem
open Facts₀ Facts

variable {F : FTy → Type} [FloatOps F] [Named F]
variable [Facts]

/-! ## Shapes of a tile with `n` key blocks and `k` keys -/

/-- `n` rows of 128 lanes. -/
abbrev Sn (n : Nat) : Shape := ⟨2, ![n, 128]⟩
/-- `n` rows of 128 lanes under one leading axis. -/
abbrev S1n (n : Nat) : Shape := ⟨3, ![1, n, 128]⟩
/-- `n` rows of 128 lanes, 126 times. -/
abbrev S126n (n : Nat) : Shape := ⟨3, ![126, n, 128]⟩
/-- `n` rows of 128 lanes of one buffer half. -/
abbrev S11n (n : Nat) : Shape := ⟨4, ![1, 1, n, 128]⟩
/-- 128 dimensions by `k` keys. -/
abbrev Sdk (k : Nat) : Shape := ⟨2, ![128, k]⟩
/-- `k` keys by 256 queries. -/
abbrev Skq (k : Nat) : Shape := ⟨2, ![k, 256]⟩
/-- `k` keys by 256 queries of one buffer half. -/
abbrev S1kq (k : Nat) : Shape := ⟨3, ![1, k, 256]⟩

/-- What the operations over `n` key blocks and `k` keys ask of their shapes. -/
structure NF (n k : Nat) : Prop where
  npos : 0 < n
  kpos : 0 < k
  kle : k ≤ 1024
  kn : k = 32 * n
  sc4 : (S11n n).ShapeCasts (Sn n)
  sc4' : (Sn n).ShapeCasts (S11n n)
  red : (Sn n).Reduces [0] S128
  bc : S1x128.Broadcasts (Sn n)
  io : (S126n n).Iotas .tc 32 [0]
  sc3 : (Sn n).ShapeCasts (S1n n)
  bc3 : (S1n n).Broadcasts (S126n n)
  red3 : (S126n n).Reduces [0] (Sn n)
  sck : (S1kq k).ShapeCasts (Skq k)
  wf : DotDims.WF (Sdk k) (Skq k) S128x256 [1] [0] [0] [1] [] []
  pos4 : 0 < (S11n n).numel
  posv : 0 < (Sdk k).numel
  posp : 0 < (S1kq k).numel

/-! ## Values -/

/-- A word of key scales as powers of two: the code in an f32's exponent field. -/
def e8 {s : Shape} (v : IVec s 8) : FVec F s .f32 :=
  bitcastToFloat .f32 (shli (extui 32 v natLt_8_32) (broadcast s 23#32))

/-- Codes of 1024 positions times their scales (a scale per position and block of 32 dimensions), dimensions first. -/
def deq (v0 : Vec F S1x1x1024x128 .fp8e4m3) (v2 : Vec F S1x1x4x1024 .i8) : FVec F S128x1024 .f32 :=
  mulf (transpose S128x1024 [1, 0] (extf .f32 (shapeCast S1024x128 v0 shapeCasts_S1x1x1024x128_S1024x128 : FVec F S1024x128 .fp8e4m3)
      bitsLt_fp8e4m3_f32) transposes_S1024x128_p1_0_S128x1024)
    (shapeCast S128x1024 (broadcastTo S4x32x1024 (shapeCast S4x1x1024 (shapeCast S4x1x1024
      (e8 (shapeCast S4x1024 v2 shapeCasts_S1x1x4x1024_S4x1024)) shapeCasts_S4x1024_S4x1x1024) shapeCasts_S4x1x1024_S4x1x1024)
      broadcasts_S4x1x1024_S4x32x1024) shapeCasts_S4x32x1024_S128x1024)

/-- The keys as the kernel keeps them, a row per position. -/
def kbOf (v0 : Vec F S1x1x1024x128 .fp8e4m3) (v2 : Vec F S1x1x4x1024 .i8) : FVec F S1024x128 .bf16 :=
  shapeCast S1024x128 (truncf .bf16 (transpose S1024x128 [1, 0] (deq v0 v2) transposes_S128x1024_p1_0_S1024x128) bitsLt_bf16_f32)
    shapeCasts_S1024x128_S1024x128

/-- The values as the kernel keeps them, a column per position. -/
def vtOf (v20 : Vec F S1x1x32x128 .i8) (v30 : Vec F S1x1x1024x128 .fp8e4m3) : FVec F S128x1024 .bf16 :=
  shapeCast S128x1024 (truncf .bf16 (transpose S128x1024 [1, 0] (mulf
    (extf .f32 (shapeCast S1024x128 v30 shapeCasts_S1x1x1024x128_S1024x128 : FVec F S1024x128 .fp8e4m3) bitsLt_fp8e4m3_f32)
    (shapeCast S1024x128 (broadcastTo S32x32x128 (shapeCast S32x1x128 (shapeCast S32x1x128
      (e8 (shapeCast S32x128 v20 shapeCasts_S1x1x32x128_S32x128)) shapeCasts_S32x128_S32x1x128) shapeCasts_S32x1x128_S32x1x128)
      broadcasts_S32x1x128_S32x32x128) shapeCasts_S32x32x128_S1024x128))
    transposes_S1024x128_p1_0_S128x1024) bitsLt_bf16_f32) shapeCasts_S128x1024_S128x1024

/-- One head's queries as the kernel keeps them, a column per position. -/
def qtOf (v0 : Vec F S1x1x1024x128 .fp8e4m3) (v2 : Vec F S1x1x4x1024 .i8) : FVec F S1x128x1024 .bf16 :=
  shapeCast S1x128x1024 (truncf .bf16 (deq v0 v2) bitsLt_bf16_f32) shapeCasts_S128x1024_S1x128x1024

/-- A tile of scores: 256 keys by 256 queries. -/
def sc0 (q : Vec F S1x128x256 .bf16) (k : Vec F S256x128 .bf16) : FVec F S256x256 .f32 :=
  matmul dot_S256x128_S128x256_S256x256_1_0_0_1_n_n none k (shapeCast S128x256 q shapeCasts_S1x128x256_S128x256 : FVec F S128x256 .bf16)
    (constant S256x256 .f32 0x00000000#32)

/-- The tile of scores on the diagonal: a key after its query is at `-∞`. -/
def sc1 (q : Vec F S1x128x256 .bf16) (k : Vec F S256x128 .bf16) : FVec F S256x256 .f32 :=
  select (cmpi .sle (iota .tc S256x256 32 [0] iota_S256x256_d0_w32) (iota .tc S256x256 32 [1] iota_S256x256_d1_w32)) (sc0 q k)
    (broadcast S256x256 (Scalar.ofBits .f32 0xFF800000#32))

/-- A tile as it is stored. -/
def scOut (x : FVec F S256x256 .f32) : FVec F S1x256x256 .f32 := shapeCast S1x256x256 x shapeCasts_S256x256_S1x256x256

/-- The maxima of a tile over the four groups of eight keys of each block. -/
def pmx (x : FVec F S256x256 .f32) : FVec F S64x256 .f32 :=
  shapeCast S64x256 (multiReduction .maximumf [1] S8x8x256 (shapeCast S8x4x8x256 x shapeCasts_S256x256_S8x4x8x256) 0xFF800000#32
    reduces_S8x4x8x256_S8x8x256 (.inl rfl) rfl) shapeCasts_S8x8x256_S64x256

/-- Those maxima on the first 128 lanes, as they are stored. -/
def pm0 (x : FVec F S256x256 .f32) : FVec F S1x1x64x128 .f32 :=
  shapeCast S1x1x64x128 (extractStridedSlice S64x128 ![0, 0] (pmx x) slices_S64x256_o0_0_S64x128) shapeCasts_S64x128_S1x1x64x128

/-- Those maxima on the last 128 lanes, as they are stored. -/
def pm1 (x : FVec F S256x256 .f32) : FVec F S1x1x64x128 .f32 :=
  shapeCast S1x1x64x128 (extractStridedSlice S64x128 ![0, 128] (pmx x) slices_S64x256_o0_128_S64x128) shapeCasts_S64x128_S1x1x64x128

/-- The constant `log2(e) / sqrt 128`. -/
def cc : F .f32 := Named.named κ "log2e_scale" 0x3E0293EE#32

/-- The maximum of one more group of eight. -/
def bmStep {n k : Nat} (H : NF n k) (b : FVec F (Sn n) .f32) (v : Vec F (S11n n) .f32) : FVec F (Sn n) .f32 :=
  maximumf b (shapeCast (Sn n) v H.sc4)

/-- A column's maximum, times the constant. -/
def mcOf {n k : Nat} (H : NF n k) (b : FVec F (Sn n) .f32) : FVec F S1x128 .f32 :=
  mulf (shapeCast S1x128 (multiReduction .maximumf [0] S128 b 0xFF800000#32 H.red (.inl rfl) rfl) shapeCasts_S128_S1x128)
    (broadcast S1x128 cc)

/-- The exponentials of a block of scores. -/
def pv (mc : FVec F S1x128 .f32) (v : Vec F S1x32x128 .f32) : FVec F S32x128 .f32 :=
  exp2 (subf (mulf (shapeCast S32x128 v shapeCasts_S1x32x128_S32x128) (broadcast S32x128 cc))
    (broadcastTo S32x128 mc broadcasts_S1x128_S32x128))

/-- Those exponentials as they are stored. -/
def pOut (mc : FVec F S1x128 .f32) (v : Vec F S1x32x128 .f32) : FVec F S1x32x128 .f32 :=
  shapeCast S1x32x128 (pv mc v) shapeCasts_S32x128_S1x32x128

/-- The running sums, a block added. -/
def accStep (mc : FVec F S1x128 .f32) (v : Vec F S1x32x128 .f32) (acc : FVec F S8x128 .f32) : FVec F S8x128 .f32 :=
  addf acc (multiReduction .add [0] S8x128 (shapeCast S4x8x128 (pv mc v) shapeCasts_S32x128_S4x8x128) 0x00000000#32
    reduces_S4x8x128_S8x128 (.inl rfl) rfl)

/-- The running sums before the first block. -/
def acc0 : FVec F S8x128 .f32 := broadcast S8x128 (Scalar.ofBits .f32 0x00000000#32)

/-- The reciprocal of a column's sum. -/
def rlOf (acc : FVec F S8x128 .f32) : FVec F S1x128 .f32 :=
  divf (broadcast S1x128 (Scalar.ofBits .f32 0x3F800000#32))
    (shapeCast S1x128 (multiReduction .add [0] S128 acc 0x00000000#32 reduces_S8x128_S128 (.inl rfl) rfl) shapeCasts_S128_S1x128)

/-- The largest probability of each block, over 57344. -/
def xOf {n k : Nat} (H : NF n k) (b : FVec F (Sn n) .f32) (mc rl : FVec F S1x128 .f32) : FVec F (Sn n) .f32 :=
  mulf (mulf (exp2 (subf (mulf b (broadcast (Sn n) cc)) (broadcastTo (Sn n) mc H.bc))) (broadcastTo (Sn n) rl H.bc))
    (broadcast (Sn n) (Scalar.ofBits .f32 0x37924925#32))

/-- How many of the powers of two from `2^-126` up to `2^-1` each lies below. -/
def cntOf {n k : Nat} (H : NF n k) (x : FVec F (Sn n) .f32) : IVec (Sn n) 32 :=
  multiReductionI .add [0] (Sn n) (extui 32 (cmpf .olt (broadcastTo (S126n n) (shapeCast (S1n n) x H.sc3) H.bc3 : FVec F (S126n n) .f32)
    (bitcastToFloat .f32 (shli (subi (broadcast (S126n n) 126#32) (iota .tc (S126n n) 32 [0] H.io)) (broadcast (S126n n) 23#32)) :
      FVec F (S126n n) .f32)) natLt_1_32) 0#32 H.red3 rfl

/-- The exponent of each block's scale. -/
def eOf {n k : Nat} (H : NF n k) (x : FVec F (Sn n) .f32) : IVec (Sn n) 32 :=
  select (cmpf .oeq x (broadcast (Sn n) (Scalar.ofBits .f32 0x00000000#32))) (broadcast (Sn n) 0#32)
    (subi (broadcast (Sn n) 0#32) (cntOf H x))

/-- Each block's factor: the reciprocal of its scale over the column's sum. -/
def fOut {n k : Nat} (H : NF n k) (e : IVec (Sn n) 32) (rl : FVec F S1x128 .f32) : FVec F (S11n n) .f32 :=
  shapeCast (S11n n) (mulf (bitcastToFloat .f32 (shli (subi (broadcast (Sn n) 127#32) e) (broadcast (Sn n) 23#32)) : FVec F (Sn n) .f32)
    (broadcastTo (Sn n) rl H.bc)) H.sc4'

/-- Each block's scale, twice as the bits of a bf16 in one word. -/
def scaleOut {n k : Nat} (H : NF n k) (e : IVec (Sn n) 32) : IVec (S11n n) 32 :=
  shapeCast (S11n n) (ori (shli (addi e (broadcast (Sn n) 127#32)) (broadcast (Sn n) 23#32))
    (shli (addi e (broadcast (Sn n) 127#32)) (broadcast (Sn n) 7#32))) H.sc4'

/-- A block of quantised probabilities, as it is stored. -/
def ptOut (f : Vec F S1x1x1x128 .f32) (p : Vec F S1x32x128 .f32) (w : Vec F S1x1x1x128 .i32) : FVec F S1x32x128 .bf16 :=
  shapeCast S1x32x128 (mulf (extf .bf16 (truncf .fp8e5m2 (minimumf (mulf (shapeCast S32x128 p shapeCasts_S1x32x128_S32x128)
      (broadcastTo S32x128 (shapeCast S1x128 (shapeCast S1x128 f shapeCasts_S1x1x1x128_S1x128) shapeCasts_S1x128_S1x128)
        broadcasts_S1x128_S32x128) : FVec F S32x128 .f32) (broadcast S32x128 (Scalar.ofBits .f32 0x47600000#32))) bitsLt_fp8e5m2_f32)
      bitsLt_fp8e5m2_bf16)
    (bitcastToFloat .bf16 (bitcast S32x128 16 (broadcastTo S16x128 (shapeCast S1x128 (shapeCast S1x128 w
      shapeCasts_S1x1x1x128_S1x128) shapeCasts_S1x128_S1x128) broadcasts_S1x128_S16x128 : IVec S16x128 32)
      bitcasts_S16x128_w32_S32x128_w16))) shapeCasts_S32x128_S1x32x128

/-- A tile of the output, as it is stored. -/
def oOut {n k : Nat} (H : NF n k) (v : Vec F (Sdk k) .bf16) (p : Vec F (S1kq k) .bf16) : FVec F S1x256x128 .bf16 :=
  shapeCast S1x256x128 (truncf .bf16 (transpose S256x128 [1, 0] (matmul
    (⟨[1], [0], [0], [1], [], [], H.wf⟩ : DotDims (Sdk k) (Skq k) S128x256) none v (shapeCast (Skq k) p H.sck : FVec F (Skq k) .bf16)
    (constant S128x256 .f32 0x00000000#32)) transposes_S128x256_p1_0_S256x128) bitsLt_bf16_f32) shapeCasts_S256x128_S1x256x128

/-! ## The program -/

/-- The buffers the body works on, each a whole buffer. -/
structure Bufs where
  a2 : Memref sig .tc .vmem S1x3x1024x128 .fp8e4m3
  h2 : a2.IsWhole
  a3 : Memref sig .tc .vmem S1x3x4x1024 .i8
  h3 : a3.IsWhole
  a4 : Memref sig .tc .vmem S1x1x1024x128 .fp8e4m3
  h4 : a4.IsWhole
  a5 : Memref sig .tc .vmem S1x1x4x1024 .i8
  h5 : a5.IsWhole
  a6 : Memref sig .tc .vmem S1x1x1024x128 .fp8e4m3
  h6 : a6.IsWhole
  a7 : Memref sig .tc .vmem S1x1x32x128 .i8
  h7 : a7.IsWhole
  a8 : Memref sig .tc .vmem S1x1024x384 .bf16
  h8 : a8.IsWhole
  a9 : Memref sig .tc .vmem S3x128x1024 .bf16
  h9 : a9.IsWhole
  a10 : Memref sig .tc .vmem S1024x128 .bf16
  h10 : a10.IsWhole
  a11 : Memref sig .tc .vmem S128x1024 .bf16
  h11 : a11.IsWhole
  a12 : Memref sig .tc .vmem S2x1024x256 .f32
  h12 : a12.IsWhole
  a13 : Memref sig .tc .vmem S2x2x256x128 .f32
  h13 : a13.IsWhole
  a14 : Memref sig .tc .vmem S2x2x32x128 .f32
  h14 : a14.IsWhole
  a15 : Memref sig .tc .vmem S2x2x32x128 .i32
  h15 : a15.IsWhole
  a16 : Memref sig .tc .vmem S2x1024x256 .bf16
  h16 : a16.IsWhole

variable (F) in
/-- Programs of the body. -/
abbrev KP (α : Type) := Prog (TpuEff nD τ sig (Elt F) Λ₀ .tc) α

/-- A load. -/
abbrev ld {s : Shape} {e : EltTy} (m : Memref sig .tc .vmem s e) (r : LoadRect s) (h : 0 < r.shape.numel) : KP F (Vec F r.shape e) :=
  Prog.lift (.load m r (View.loadsAt_vmem h))

/-- A store. -/
abbrev st {s : Shape} {e : EltTy} (m : Memref sig .tc .vmem s e) (r : Rect s) (w : Vec F r.shape e)
    (h : (m.access r).Stores Finset.univ) : KP F PUnit :=
  Prog.lift (.store m r w Finset.univ h (.inl rfl))

/-- A store in place: the vector there is loaded first, and not used. -/
abbrev put {s : Shape} {e : EltTy} (m : Memref sig .tc .vmem s e) (r : Rect s) (w : Vec F r.shape e) (h : 0 < r.shape.numel)
    (hs : (m.access r).Stores Finset.univ) : KP F PUnit :=
  ld m r.toLoadRect h >>= fun _ => st m r w hs

/-- `n` steps in order, a value carried. -/
def loop {α : Type} : (n : Nat) → ((j : Nat) → j < n → α → KP F α) → α → KP F α
  | 0, _, a => pure a
  | n + 1, f, a => loop n (fun j hj => f j (Nat.lt_succ_of_lt hj)) a >>= fun b => f n (Nat.lt_succ_self n) b

/-- Three coordinates below three sizes. -/
theorem le3 {a b c x y z p q r : Nat} (h1 : a + x ≤ p) (h2 : b + y ≤ q) (h3 : c + z ≤ r) :
    ∀ i, (![a, b, c] : Fin 3 → Nat) i + (![x, y, z] : Fin 3 → Nat) i ≤ (![p, q, r] : Fin 3 → Nat) i
  | 0 => h1 | 1 => h2 | 2 => h3
/-- Two coordinates below two sizes. -/
theorem le2 {a b x y p q : Nat} (h1 : a + x ≤ p) (h2 : b + y ≤ q) :
    ∀ i, (![a, b] : Fin 2 → Nat) i + (![x, y] : Fin 2 → Nat) i ≤ (![p, q] : Fin 2 → Nat) i
  | 0 => h1 | 1 => h2
/-- Four coordinates below four sizes. -/
theorem le4 {a b c d x y z u p q r v : Nat} (h1 : a + x ≤ p) (h2 : b + y ≤ q) (h3 : c + z ≤ r) (h4 : d + u ≤ v) :
    ∀ i, (![a, b, c, d] : Fin 4 → Nat) i + (![x, y, z, u] : Fin 4 → Nat) i ≤ (![p, q, r, v] : Fin 4 → Nat) i
  | 0 => h1 | 1 => h2 | 2 => h3 | 3 => h4

/-- Rows `32 j …` of the lanes of half `h` of score buffer `w`. -/
abbrev rS (w j h : Nat) (hw : w < 2) (hj : j < 32) (hh : h < 2) : Rect S2x1024x256 :=
  Rect.unit (s := S2x1024x256) ![w, 32 * j, 128 * h] S1x32x128.size (le3 (by omega) (by omega) (by omega))
/-- Rows `256 j …` of score buffer `w`. -/
abbrev rT (w j : Nat) (hw : w < 2) (hj : j < 4) : Rect S2x1024x256 :=
  Rect.unit (s := S2x1024x256) ![w, 256 * j, 0] S1x256x256.size (le3 (by omega) (by omega) (by omega))
/-- Rows `64 j …` of half `h` of maxima buffer `w`. -/
abbrev rM (w h j : Nat) (hw : w < 2) (hh : h < 2) (hj : j < 4) : Rect S2x2x256x128 :=
  Rect.unit (s := S2x2x256x128) ![w, h, 64 * j, 0] S1x1x64x128.size (le4 (by omega) (by omega) (by omega) (by omega))
/-- Every eighth row from row `i` of half `h` of maxima buffer `w`, `n` of them. -/
abbrev rB (w h i n : Nat) (hw : w < 2) (hh : h < 2) (hi : i < 8) (hn : n ≤ 32) : LoadRect S2x2x256x128 :=
  ⟨![w, h, i, 0], (S11n n).size, ![1, 1, 8, 1], by
    intro a
    match a with
    | 0 => right; show w + 1 * (1 - 1) < 2; omega
    | 1 => right; show h + 1 * (1 - 1) < 2; omega
    | 2 => by_cases h0 : n = 0
           · left; exact h0
           · right; show i + 8 * (n - 1) < 256; omega
    | 3 => right; show 0 + 1 * (128 - 1) < 128; omega⟩
/-- The first `n` rows of half `h` of factor buffer `w`. -/
abbrev rF (w h n : Nat) (hw : w < 2) (hh : h < 2) (hn : n ≤ 32) : Rect S2x2x32x128 :=
  Rect.unit (s := S2x2x32x128) ![w, h, 0, 0] (S11n n).size (le4 (by omega) (by omega) (by omega) (by omega))
/-- Row `j` of half `h` of factor buffer `w`. -/
abbrev rJ (w h j : Nat) (hw : w < 2) (hh : h < 2) (hj : j < 32) : Rect S2x2x32x128 :=
  Rect.unit (s := S2x2x32x128) ![w, h, j, 0] S1x1x1x128.size (le4 (by omega) (by omega) (by omega) (by omega))

/-- Rows from a multiple of two, a multiple of two of them, are whole words of a bf16 buffer. -/
theorem packed3 {p q r : Nat} {off size : Fin 3 → Nat} (hb : ∀ a, off a + size a ≤ (⟨3, ![p, q, r]⟩ : Shape).size a)
    (h1 : 2 ∣ off 1) (h2 : 2 ∣ size 1) :
    (Rect.unit (s := ⟨3, ![p, q, r]⟩) off size hb).PackedRows (EltTy.packing .bf16) :=
  .inr ⟨(by decide : 2 ≤ 3), rfl, .inl ⟨h1, h2⟩⟩

variable (B : Bufs)

/-- One tile of scores and its maxima. -/
def tile (w j : Nat) (hw : w < 2) (hj : j < 4) (s : FVec F S256x256 .f32) : KP F PUnit := do
  put B.a12 (rT w j hw hj) (scOut s) h_S1x256x256 (View.stores_vmem_bits_univ h_S1x256x256 rfl)
  put B.a13 (rM w 0 j hw (by omega) hj) (pm0 s) h_S1x1x64x128 (View.stores_vmem_bits_univ h_S1x1x64x128 rfl)
  put B.a13 (rM w 1 j hw (by omega) hj) (pm1 s) h_S1x1x64x128 (View.stores_vmem_bits_univ h_S1x1x64x128 rfl)

/-- 256 keys. -/
def ldK (j : Nat) (hj : j < 4) : KP F (Vec F S256x128 .bf16) :=
  ld B.a10 (Rect.unit (s := S1024x128) ![256 * j, 0] S256x128.size (le2 (by omega) (by omega))).toLoadRect h_S256x128

/-- The tiles of scores of query tile `t` and head `r`. -/
def tiles (t r w : Nat) (ht : t < 4) (hr : r < 3) (hw : w < 2) : KP F PUnit := do
  let q ← ld B.a9 (Rect.unit (s := S3x128x1024) ![r, 0, 256 * t] S1x128x256.size (le3 (by omega) (by omega) (by omega))).toLoadRect
    h_S1x128x256
  let _ ← loop t (fun j hj (_ : PUnit) => do
    let k ← ldK B j (by omega)
    tile B w j hw (by omega) (sc0 q k)) ⟨⟩
  let k ← ldK B t ht
  tile B w t hw ht (sc1 q k)

/-- The maxima of each block. -/
def bmP {n k : Nat} (H : NF n k) (w h : Nat) (hw : w < 2) (hh : h < 2) (hn : n ≤ 32) : KP F (FVec F (Sn n) .f32) := do
  let v ← ld B.a13 (rB w h 0 n hw hh (by omega) hn) H.pos4
  loop 7 (fun i hi b => do
    let v ← ld B.a13 (rB w h (i + 1) n hw hh (by omega) hn) H.pos4
    pure (bmStep H b v)) (shapeCast (Sn n) v H.sc4)

/-- The exponentials of each block and their sums. -/
def accP (n w h : Nat) (hw : w < 2) (hh : h < 2) (hn : n ≤ 32) (mc : FVec F S1x128 .f32) : KP F (FVec F S8x128 .f32) :=
  loop n (fun j hj acc => do
    let v ← ld B.a12 (rS w j h hw (by omega) hh).toLoadRect h_S1x32x128
    put B.a12 (rS w j h hw (by omega) hh) (pOut mc v) h_S1x32x128 (View.stores_vmem_bits_univ h_S1x32x128 rfl)
    pure (accStep mc v acc)) acc0

/-- The softmax pass over half the lanes: the exponentials in place of the scores, each block's factor and scale. -/
def passP {n k : Nat} (H : NF n k) (w h : Nat) (hw : w < 2) (hh : h < 2) (hn : n ≤ 32) : KP F PUnit := do
  let b ← bmP B H w h hw hh hn
  let acc ← accP B n w h hw hh hn (mcOf H b)
  put B.a14 (rF w h n hw hh hn) (fOut H (eOf H (xOf H b (mcOf H b) (rlOf acc))) (rlOf acc)) H.pos4 (View.stores_vmem_bits_univ H.pos4 rfl)
  put (F := F) B.a15 (rF w h n hw hh hn) (scaleOut H (eOf H (xOf H b (mcOf H b) (rlOf acc)))) H.pos4 (View.stores_vmem_bits_univ H.pos4 rfl)

/-- The quantising pass over half the lanes. -/
def passQ (n w h : Nat) (hw : w < 2) (hh : h < 2) (hn : n ≤ 32) : KP F PUnit :=
  loop n (fun j hj (_ : PUnit) => do
    let f ← ld B.a14 (rJ w h j hw hh (by omega)).toLoadRect h_S1x1x1x128
    let p ← ld B.a12 (rS w j h hw (by omega) hh).toLoadRect h_S1x32x128
    let s ← ld (F := F) B.a15 (rJ w h j hw hh (by omega)).toLoadRect h_S1x1x1x128
    put B.a16 (rS w j h hw (by omega) hh) (ptOut f p s) h_S1x32x128
      (View.stores_vmem h_S1x32x128 (B.h16.storeExact_slice rfl _ (packed3 _ ⟨16 * j, by show 32 * j = _; omega⟩ ⟨16, rfl⟩)) (fun _ => rfl))) ⟨⟩

/-- The output tile of query tile `t` and head `r`. -/
def outP {n k : Nat} (H : NF n k) (t r w : Nat) (ht : t < 4) (hr : r < 3) (hw : w < 2) : KP F PUnit := do
  let v ← ld B.a11 (Rect.unit (s := S128x1024) ![0, 0] (Sdk k).size (le2 (by omega) (by have := H.kle; omega))).toLoadRect H.posv
  let p ← ld B.a16 (Rect.unit (s := S2x1024x256) ![w, 0, 0] (S1kq k).size (le3 (by omega) (by have := H.kle; omega) (by omega))).toLoadRect H.posp
  put B.a8 (Rect.unit (s := S1x1024x384) ![0, 256 * t, 128 * r] S1x256x128.size (le3 (by omega) (by omega) (by omega))) (oOut H v p)
    h_S1x256x128 (View.stores_vmem h_S1x256x128 (B.h8.storeExact_slice rfl _ (packed3 _ ⟨128 * t, by show 256 * t = _; omega⟩ ⟨128, rfl⟩)) (fun _ => rfl))

/-- One head's queries. -/
def qP (r : Nat) (hr : r < 3) : KP F PUnit := do
  let v ← ld B.a2 (Rect.unit (s := S1x3x1024x128) ![0, r, 0, 0] S1x1x1024x128.size
    (le4 (by omega) (by omega) (by omega) (by omega))).toLoadRect h_S1x1x1024x128
  let s ← ld (F := F) B.a3 (Rect.unit (s := S1x3x4x1024) ![0, r, 0, 0] S1x1x4x1024.size
    (le4 (by omega) (by omega) (by omega) (by omega))).toLoadRect h_S1x1x4x1024
  put B.a9 (Rect.unit (s := S3x128x1024) ![r, 0, 0] S1x128x1024.size (le3 (by omega) (by omega) (by omega))) (qtOf v s) h_S1x128x1024
    (View.stores_vmem h_S1x128x1024 (B.h9.storeExact_slice rfl _ (packed3 _ ⟨0, rfl⟩ ⟨64, rfl⟩)) (fun _ => rfl))

/-- The keys, the values and the queries, scaled. -/
def proP : KP F PUnit := do
  let v ← ld B.a4 (Rect.unit (s := S1x1x1024x128) ![0, 0, 0, 0] S1x1x1024x128.size inb_S1x1x1024x128_S1x1x1024x128_0_0_0_0).toLoadRect h_S1x1x1024x128
  let s ← ld (F := F) B.a5 (Rect.unit (s := S1x1x4x1024) ![0, 0, 0, 0] S1x1x4x1024.size inb_S1x1x4x1024_S1x1x4x1024_0_0_0_0).toLoadRect h_S1x1x4x1024
  put B.a10 (Rect.unit (s := S1024x128) ![0, 0] S1024x128.size inb_S1024x128_S1024x128_0_0) (kbOf v s) h_S1024x128
    (View.stores_vmem h_S1024x128 (B.h10.storeExact_slice rfl _ (.inl fun a => ⟨by fin_cases a <;> rfl, rfl, rfl⟩)) (fun _ => rfl))
  let s ← ld (F := F) B.a7 (Rect.unit (s := S1x1x32x128) ![0, 0, 0, 0] S1x1x32x128.size inb_S1x1x32x128_S1x1x32x128_0_0_0_0).toLoadRect h_S1x1x32x128
  let v ← ld B.a6 (Rect.unit (s := S1x1x1024x128) ![0, 0, 0, 0] S1x1x1024x128.size inb_S1x1x1024x128_S1x1x1024x128_0_0_0_0).toLoadRect h_S1x1x1024x128
  put B.a11 (Rect.unit (s := S128x1024) ![0, 0] S128x1024.size inb_S128x1024_S128x1024_0_0) (vtOf s v) h_S128x1024
    (View.stores_vmem h_S128x1024 (B.h11.storeExact_slice rfl _ (.inl fun a => ⟨by fin_cases a <;> rfl, rfl, rfl⟩)) (fun _ => rfl))
  loop 3 (fun r hr (_ : PUnit) => qP B r hr) ⟨⟩

end Cert.KernelIdeal
-- ==== Proof.KDrop.lean ====
/- The printed body with its first operations left out, one given answer to every load. -/
module

public import proofs.«01_k».proof.Proof.KProg

@[expose] public section

noncomputable section

namespace Cert.KernelIdeal

open Idealize.ShloMosaic Idealize.SL.Sem
open Gen Facts₀ Facts

variable {F : FTy → Type} [FloatOps F] [Named F]
variable [Facts]

/-- The printed body on the buffers. -/
def body (i : grid0.Coords) (B : Bufs) : KP F PUnit := cc0__kernel_skel i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16

/-- A program after its first `n` operations, `o` the element every load answers with. -/
def drop (o : (e : EltTy) → Elt F e) {α : Type} (n : Nat) : KP F α → KP F α :=
  Nat.rec (motive := fun _ => KP F α → KP F α) (fun p => p)
    (fun _ ih p => match p with
      | .op (.load _ _ _) k => ih (k fun _ => o _)
      | .op (.store _ _ _ _ _ _) k => ih (k ⟨⟩)
      | p => p) n
-- ==== Proof.KUnit.lean ====
/- The body's units, and its program. -/
module

public import proofs.«01_k».proof.Proof.KDrop

@[expose] public section

noncomputable section

namespace Cert.KernelIdeal

open Idealize.ShloMosaic Idealize.SL.Sem
open Facts₀ Facts

variable {F : FTy → Type} [FloatOps F] [Named F]
variable [Facts]

/-- The shapes of query tile 0. -/
theorem nf0 : NF 8 256 :=
  ⟨by omega, by omega, by omega, by omega, shapeCasts_S1x1x8x128_S8x128, shapeCasts_S8x128_S1x1x8x128, reduces_S8x128_S128,
    broadcasts_S1x128_S8x128, iota_S126x8x128_d0_w32, shapeCasts_S8x128_S1x8x128, broadcasts_S1x8x128_S126x8x128,
    reduces_S126x8x128_S8x128, shapeCasts_S1x256x256_S256x256, dot_S128x256_S256x256_S128x256_1_0_0_1_n_n.wf,
    h_S1x1x8x128, h_S128x256, h_S1x256x256⟩

/-- The shapes of query tile 1. -/
theorem nf1 : NF 16 512 :=
  ⟨by omega, by omega, by omega, by omega, shapeCasts_S1x1x16x128_S16x128, shapeCasts_S16x128_S1x1x16x128, reduces_S16x128_S128,
    broadcasts_S1x128_S16x128, iota_S126x16x128_d0_w32, shapeCasts_S16x128_S1x16x128, broadcasts_S1x16x128_S126x16x128,
    reduces_S126x16x128_S16x128, shapeCasts_S1x512x256_S512x256, dot_S128x512_S512x256_S128x256_1_0_0_1_n_n.wf,
    h_S1x1x16x128, h_S128x512, h_S1x512x256⟩

/-- The shapes of query tile 2. -/
theorem nf2 : NF 24 768 :=
  ⟨by omega, by omega, by omega, by omega, shapeCasts_S1x1x24x128_S24x128, shapeCasts_S24x128_S1x1x24x128, reduces_S24x128_S128,
    broadcasts_S1x128_S24x128, iota_S126x24x128_d0_w32, shapeCasts_S24x128_S1x24x128, broadcasts_S1x24x128_S126x24x128,
    reduces_S126x24x128_S24x128, shapeCasts_S1x768x256_S768x256, dot_S128x768_S768x256_S128x256_1_0_0_1_n_n.wf,
    h_S1x1x24x128, h_S128x768, h_S1x768x256⟩

/-- The shapes of query tile 3. -/
theorem nf3 : NF 32 1024 :=
  ⟨by omega, by omega, by omega, by omega, shapeCasts_S1x1x32x128_S32x128, shapeCasts_S32x128_S1x1x32x128, reduces_S32x128_S128,
    broadcasts_S1x128_S32x128, iota_S126x32x128_d0_w32, shapeCasts_S32x128_S1x32x128, broadcasts_S1x32x128_S126x32x128,
    reduces_S126x32x128_S32x128, shapeCasts_S1x1024x256_S1024x256, dot_S128x1024_S1024x256_S128x256_1_0_0_1_n_n.wf,
    h_S1x1x32x128, h_S128x1024, h_S1x1024x256⟩

/-- The shapes of every query tile. -/
theorem nf : (t : Nat) → t < 4 → NF (8 * (t + 1)) (256 * (t + 1))
  | 0, _ => nf0 | 1, _ => nf1 | 2, _ => nf2 | 3, _ => nf3
  | _ + 4, h => absurd h (by omega)

variable (B : Bufs)

/-- Half `h` of the lanes of query tile `t` in buffer `w`. -/
def half (t w h : Nat) (ht : t < 4) (hw : w < 2) (hh : h < 2) : KP F PUnit := do
  passP B (nf t ht) w h hw hh (by omega)
  passQ B (8 * (t + 1)) w h hw hh (by omega)

/-- Query tile `t` of head `r`, in buffer `w`. -/
def unit (t r w : Nat) (ht : t < 4) (hr : r < 3) (hw : w < 2) : KP F PUnit := do
  tiles B t r w ht hr hw
  half B t w 0 ht hw (by omega)
  half B t w 1 ht hw (by omega)
  outP B (nf t ht) t r w ht hr hw

/-- The body: the prologue, and every query tile of every head, the buffers taken in turn. -/
def kprog : KP F PUnit := do
  proP B
  loop 4 (fun t ht (_ : PUnit) => loop 3 (fun r hr (_ : PUnit) => unit B t r ((3 * t + r) % 2) ht hr (by omega)) ⟨⟩) ⟨⟩

end Cert.KernelIdeal
-- ==== Proof.KLoop.lean ====
/- A loop of the structured kernel with its first step in front. -/
module

public import proofs.«01_k».proof.Proof.KUnit

@[expose] public section

noncomputable section

namespace Cert.KernelIdeal

open Idealize.ShloMosaic Idealize.SL.Sem

variable {F : FTy → Type} [FloatOps F] [Named F]

/-- The last `m` of `N` steps, from step `j` on, the first of them in front. -/
def loopR {α : Type} (N : Nat) (f : (j : Nat) → j < N → α → KP F α) : (m j : Nat) → j + m = N → α → KP F α
  | 0, _, _, a => pure a
  | m + 1, j, h, a => f j (by omega) a >>= fun b => loopR N f m (j + 1) (by omega) b

/-- A loop is its first steps and then the steps left. -/
theorem loop_split {α : Type} (N : Nat) (f : (j : Nat) → j < N → α → KP F α) (a : α) : ∀ (m j : Nat) (h : j + m = N),
    loop N f a = (loop j (fun i hi => f i (by omega)) a >>= fun b => loopR N f m j h b)
  | 0, j, h => by
    obtain rfl : j = N := h
    exact (bind_pure _).symm
  | m + 1, j, h => by
    rw [loop_split N f a m (j + 1) (by omega)]
    exact bind_assoc _ _ _

/-- A loop with its first step in front. -/
theorem loop_eq {α : Type} (N : Nat) (f : (j : Nat) → j < N → α → KP F α) (a : α) :
    loop N f a = loopR N f N 0 (Nat.zero_add N) a := by
  rw [loop_split N f a N 0 (Nat.zero_add N)]
  exact pure_bind _ _

end Cert.KernelIdeal
-- ==== Proof.KEq.lean ====
/- The printed body begins with the prologue; the lemma by which the printed body and the program are compared, an operation at a time. -/
module

public import proofs.«01_k».proof.Proof.KLoop

@[expose] public section

noncomputable section

namespace Cert.KernelIdeal

open Idealize.ShloMosaic Idealize.SL.Sem

variable {F : FTy → Type} [FloatOps F] [Named F]
variable [Facts]

/-- Two programs that begin with the same operation and go on alike are the same. -/
theorem op_congr {E : Type → Type} {α β : Type} {e e' : E β} {k k' : β → Prog E α} (h : e = e') (hk : ∀ x, k x = k' x) :
    Prog.op e k = Prog.op e' k' := by rw [h, funext hk]

set_option maxRecDepth 100000 in
/-- The printed body is the prologue and then the rest of it. -/
theorem body_pro (o : (e : EltTy) → Elt F e) (i : grid0.Coords) (B : Bufs) :
    (body i B : KP F PUnit) = (proP B >>= fun _ => drop o 20 (body i B)) := by exact rfl

set_option maxRecDepth 100000 in
set_option maxHeartbeats 0 in
/-- Nothing is left of the printed body after its last operation. -/
theorem body_end (o : (e : EltTy) → Elt F e) (i : grid0.Coords) (B : Bufs) :
    drop o 4418 (body i B : KP F PUnit) = .ret ⟨⟩ := by
  conv => { lhs; whnf }

end Cert.KernelIdeal
-- ==== Proof.KEq00.lean ====
/- The printed body from its operation 20 on is query tile 0 of head 0, and then the rest of it. -/
module

public import proofs.«01_k».proof.Proof.KEq

@[expose] public section

noncomputable section

namespace Cert.KernelIdeal

open Idealize.ShloMosaic Idealize.SL.Sem

variable {F : FTy → Type} [FloatOps F] [Named F]
variable [Facts]

set_option maxRecDepth 100000 in
set_option maxHeartbeats 0 in
/-- Query tile 0 of head 0 in the printed body: the same 164 operations, compared one by one. -/
theorem body_0_0 (o : (e : EltTy) → Elt F e) (i : grid0.Coords) (B : Bufs) :
    drop o 20 (body i B : KP F PUnit) =
      (unit B 0 0 0 (by omega) (by omega) (by omega) >>= fun _ => drop o 184 (body i B)) := by
  unfold unit half tiles passP bmP accP passQ outP
  simp only [loop_eq, bind_assoc]
  iterate 164 (conv => { lhs; whnf }; conv => { rhs; whnf }; refine op_congr rfl fun _ => ?_)
  try conv => { lhs; whnf }
  try conv => { rhs; whnf }
  try rfl

end Cert.KernelIdeal
-- ==== Proof.KEq01.lean ====
/- The printed body from its operation 184 on is query tile 0 of head 1, and then the rest of it. -/
module

public import proofs.«01_k».proof.Proof.KEq

@[expose] public section

noncomputable section

namespace Cert.KernelIdeal

open Idealize.ShloMosaic Idealize.SL.Sem

variable {F : FTy → Type} [FloatOps F] [Named F]
variable [Facts]

set_option maxRecDepth 100000 in
set_option maxHeartbeats 0 in
/-- Query tile 0 of head 1 in the printed body: the same 164 operations, compared one by one. -/
theorem body_0_1 (o : (e : EltTy) → Elt F e) (i : grid0.Coords) (B : Bufs) :
    drop o 184 (body i B : KP F PUnit) =
      (unit B 0 1 1 (by omega) (by omega) (by omega) >>= fun _ => drop o 348 (body i B)) := by
  unfold unit half tiles passP bmP accP passQ outP
  simp only [loop_eq, bind_assoc]
  iterate 164 (conv => { lhs; whnf }; conv => { rhs; whnf }; refine op_congr rfl fun _ => ?_)
  try conv => { lhs; whnf }
  try conv => { rhs; whnf }
  try rfl

end Cert.KernelIdeal
-- ==== Proof.KEq02.lean ====
/- The printed body from its operation 348 on is query tile 0 of head 2, and then the rest of it. -/
module

public import proofs.«01_k».proof.Proof.KEq

@[expose] public section

noncomputable section

namespace Cert.KernelIdeal

open Idealize.ShloMosaic Idealize.SL.Sem

variable {F : FTy → Type} [FloatOps F] [Named F]
variable [Facts]

set_option maxRecDepth 100000 in
set_option maxHeartbeats 0 in
/-- Query tile 0 of head 2 in the printed body: the same 164 operations, compared one by one. -/
theorem body_0_2 (o : (e : EltTy) → Elt F e) (i : grid0.Coords) (B : Bufs) :
    drop o 348 (body i B : KP F PUnit) =
      (unit B 0 2 0 (by omega) (by omega) (by omega) >>= fun _ => drop o 512 (body i B)) := by
  unfold unit half tiles passP bmP accP passQ outP
  simp only [loop_eq, bind_assoc]
  iterate 164 (conv => { lhs; whnf }; conv => { rhs; whnf }; refine op_congr rfl fun _ => ?_)
  try conv => { lhs; whnf }
  try conv => { rhs; whnf }
  try rfl

end Cert.KernelIdeal
-- ==== Proof.KEq10.lean ====
/- The printed body from its operation 512 on is query tile 1 of head 0, and then the rest of it. -/
module

public import proofs.«01_k».proof.Proof.KEq

@[expose] public section

noncomputable section

namespace Cert.KernelIdeal

open Idealize.ShloMosaic Idealize.SL.Sem

variable {F : FTy → Type} [FloatOps F] [Named F]
variable [Facts]

set_option maxRecDepth 100000 in
set_option maxHeartbeats 0 in
/-- Query tile 1 of head 0 in the printed body: the same 299 operations, compared one by one. -/
theorem body_1_0 (o : (e : EltTy) → Elt F e) (i : grid0.Coords) (B : Bufs) :
    drop o 512 (body i B : KP F PUnit) =
      (unit B 1 0 1 (by omega) (by omega) (by omega) >>= fun _ => drop o 811 (body i B)) := by
  unfold unit half tiles passP bmP accP passQ outP
  simp only [loop_eq, bind_assoc]
  iterate 299 (conv => { lhs; whnf }; conv => { rhs; whnf }; refine op_congr rfl fun _ => ?_)
  try conv => { lhs; whnf }
  try conv => { rhs; whnf }
  try rfl

end Cert.KernelIdeal
-- ==== Proof.KEq11.lean ====
/- The printed body from its operation 811 on is query tile 1 of head 1, and then the rest of it. -/
module

public import proofs.«01_k».proof.Proof.KEq

@[expose] public section

noncomputable section

namespace Cert.KernelIdeal

open Idealize.ShloMosaic Idealize.SL.Sem

variable {F : FTy → Type} [FloatOps F] [Named F]
variable [Facts]

set_option maxRecDepth 100000 in
set_option maxHeartbeats 0 in
/-- Query tile 1 of head 1 in the printed body: the same 299 operations, compared one by one. -/
theorem body_1_1 (o : (e : EltTy) → Elt F e) (i : grid0.Coords) (B : Bufs) :
    drop o 811 (body i B : KP F PUnit) =
      (unit B 1 1 0 (by omega) (by omega) (by omega) >>= fun _ => drop o 1110 (body i B)) := by
  unfold unit half tiles passP bmP accP passQ outP
  simp only [loop_eq, bind_assoc]
  iterate 299 (conv => { lhs; whnf }; conv => { rhs; whnf }; refine op_congr rfl fun _ => ?_)
  try conv => { lhs; whnf }
  try conv => { rhs; whnf }
  try rfl

end Cert.KernelIdeal
-- ==== Proof.KEq12.lean ====
/- The printed body from its operation 1110 on is query tile 1 of head 2, and then the rest of it. -/
module

public import proofs.«01_k».proof.Proof.KEq

@[expose] public section

noncomputable section

namespace Cert.KernelIdeal

open Idealize.ShloMosaic Idealize.SL.Sem

variable {F : FTy → Type} [FloatOps F] [Named F]
variable [Facts]

set_option maxRecDepth 100000 in
set_option maxHeartbeats 0 in
/-- Query tile 1 of head 2 in the printed body: the same 299 operations, compared one by one. -/
theorem body_1_2 (o : (e : EltTy) → Elt F e) (i : grid0.Coords) (B : Bufs) :
    drop o 1110 (body i B : KP F PUnit) =
      (unit B 1 2 1 (by omega) (by omega) (by omega) >>= fun _ => drop o 1409 (body i B)) := by
  unfold unit half tiles passP bmP accP passQ outP
  simp only [loop_eq, bind_assoc]
  iterate 299 (conv => { lhs; whnf }; conv => { rhs; whnf }; refine op_congr rfl fun _ => ?_)
  try conv => { lhs; whnf }
  try conv => { rhs; whnf }
  try rfl

end Cert.KernelIdeal
-- ==== Proof.KEq20.lean ====
/- The printed body from its operation 1409 on is query tile 2 of head 0, and then the rest of it. -/
module

public import proofs.«01_k».proof.Proof.KEq

@[expose] public section

noncomputable section

namespace Cert.KernelIdeal

open Idealize.ShloMosaic Idealize.SL.Sem

variable {F : FTy → Type} [FloatOps F] [Named F]
variable [Facts]

set_option maxRecDepth 100000 in
set_option maxHeartbeats 0 in
/-- Query tile 2 of head 0 in the printed body: the same 434 operations, compared one by one. -/
theorem body_2_0 (o : (e : EltTy) → Elt F e) (i : grid0.Coords) (B : Bufs) :
    drop o 1409 (body i B : KP F PUnit) =
      (unit B 2 0 0 (by omega) (by omega) (by omega) >>= fun _ => drop o 1843 (body i B)) := by
  unfold unit half tiles passP bmP accP passQ outP
  simp only [loop_eq, bind_assoc]
  iterate 434 (conv => { lhs; whnf }; conv => { rhs; whnf }; refine op_congr rfl fun _ => ?_)
  try conv => { lhs; whnf }
  try conv => { rhs; whnf }
  try rfl

end Cert.KernelIdeal
-- ==== Proof.KEq21.lean ====
/- The printed body from its operation 1843 on is query tile 2 of head 1, and then the rest of it. -/
module

public import proofs.«01_k».proof.Proof.KEq

@[expose] public section

noncomputable section

namespace Cert.KernelIdeal

open Idealize.ShloMosaic Idealize.SL.Sem

variable {F : FTy → Type} [FloatOps F] [Named F]
variable [Facts]

set_option maxRecDepth 100000 in
set_option maxHeartbeats 0 in
/-- Query tile 2 of head 1 in the printed body: the same 434 operations, compared one by one. -/
theorem body_2_1 (o : (e : EltTy) → Elt F e) (i : grid0.Coords) (B : Bufs) :
    drop o 1843 (body i B : KP F PUnit) =
      (unit B 2 1 1 (by omega) (by omega) (by omega) >>= fun _ => drop o 2277 (body i B)) := by
  unfold unit half tiles passP bmP accP passQ outP
  simp only [loop_eq, bind_assoc]
  iterate 434 (conv => { lhs; whnf }; conv => { rhs; whnf }; refine op_congr rfl fun _ => ?_)
  try conv => { lhs; whnf }
  try conv => { rhs; whnf }
  try rfl

end Cert.KernelIdeal
-- ==== Proof.KEq22.lean ====
/- The printed body from its operation 2277 on is query tile 2 of head 2, and then the rest of it. -/
module

public import proofs.«01_k».proof.Proof.KEq

@[expose] public section

noncomputable section

namespace Cert.KernelIdeal

open Idealize.ShloMosaic Idealize.SL.Sem

variable {F : FTy → Type} [FloatOps F] [Named F]
variable [Facts]

set_option maxRecDepth 100000 in
set_option maxHeartbeats 0 in
/-- Query tile 2 of head 2 in the printed body: the same 434 operations, compared one by one. -/
theorem body_2_2 (o : (e : EltTy) → Elt F e) (i : grid0.Coords) (B : Bufs) :
    drop o 2277 (body i B : KP F PUnit) =
      (unit B 2 2 0 (by omega) (by omega) (by omega) >>= fun _ => drop o 2711 (body i B)) := by
  unfold unit half tiles passP bmP accP passQ outP
  simp only [loop_eq, bind_assoc]
  iterate 434 (conv => { lhs; whnf }; conv => { rhs; whnf }; refine op_congr rfl fun _ => ?_)
  try conv => { lhs; whnf }
  try conv => { rhs; whnf }
  try rfl

end Cert.KernelIdeal
-- ==== Proof.KEq30.lean ====
/- The printed body from its operation 2711 on is query tile 3 of head 0, and then the rest of it. -/
module

public import proofs.«01_k».proof.Proof.KEq

@[expose] public section

noncomputable section

namespace Cert.KernelIdeal

open Idealize.ShloMosaic Idealize.SL.Sem

variable {F : FTy → Type} [FloatOps F] [Named F]
variable [Facts]

set_option maxRecDepth 100000 in
set_option maxHeartbeats 0 in
/-- Query tile 3 of head 0 in the printed body: the same 569 operations, compared one by one. -/
theorem body_3_0 (o : (e : EltTy) → Elt F e) (i : grid0.Coords) (B : Bufs) :
    drop o 2711 (body i B : KP F PUnit) =
      (unit B 3 0 1 (by omega) (by omega) (by omega) >>= fun _ => drop o 3280 (body i B)) := by
  unfold unit half tiles passP bmP accP passQ outP
  simp only [loop_eq, bind_assoc]
  iterate 569 (conv => { lhs; whnf }; conv => { rhs; whnf }; refine op_congr rfl fun _ => ?_)
  try conv => { lhs; whnf }
  try conv => { rhs; whnf }
  try rfl

end Cert.KernelIdeal
-- ==== Proof.KEq31.lean ====
/- The printed body from its operation 3280 on is query tile 3 of head 1, and then the rest of it. -/
module

public import proofs.«01_k».proof.Proof.KEq

@[expose] public section

noncomputable section

namespace Cert.KernelIdeal

open Idealize.ShloMosaic Idealize.SL.Sem

variable {F : FTy → Type} [FloatOps F] [Named F]
variable [Facts]

set_option maxRecDepth 100000 in
set_option maxHeartbeats 0 in
/-- Query tile 3 of head 1 in the printed body: the same 569 operations, compared one by one. -/
theorem body_3_1 (o : (e : EltTy) → Elt F e) (i : grid0.Coords) (B : Bufs) :
    drop o 3280 (body i B : KP F PUnit) =
      (unit B 3 1 0 (by omega) (by omega) (by omega) >>= fun _ => drop o 3849 (body i B)) := by
  unfold unit half tiles passP bmP accP passQ outP
  simp only [loop_eq, bind_assoc]
  iterate 569 (conv => { lhs; whnf }; conv => { rhs; whnf }; refine op_congr rfl fun _ => ?_)
  try conv => { lhs; whnf }
  try conv => { rhs; whnf }
  try rfl

end Cert.KernelIdeal
-- ==== Proof.KEq32.lean ====
/- The printed body from its operation 3849 on is query tile 3 of head 2, and then the rest of it. -/
module

public import proofs.«01_k».proof.Proof.KEq

@[expose] public section

noncomputable section

namespace Cert.KernelIdeal

open Idealize.ShloMosaic Idealize.SL.Sem

variable {F : FTy → Type} [FloatOps F] [Named F]
variable [Facts]

set_option maxRecDepth 100000 in
set_option maxHeartbeats 0 in
/-- Query tile 3 of head 2 in the printed body: the same 569 operations, compared one by one. -/
theorem body_3_2 (o : (e : EltTy) → Elt F e) (i : grid0.Coords) (B : Bufs) :
    drop o 3849 (body i B : KP F PUnit) =
      (unit B 3 2 1 (by omega) (by omega) (by omega) >>= fun _ => drop o 4418 (body i B)) := by
  unfold unit half tiles passP bmP accP passQ outP
  simp only [loop_eq, bind_assoc]
  iterate 569 (conv => { lhs; whnf }; conv => { rhs; whnf }; refine op_congr rfl fun _ => ?_)
  try conv => { lhs; whnf }
  try conv => { rhs; whnf }
  try rfl

end Cert.KernelIdeal
-- ==== Proof.KAll.lean ====
/- The printed body is the structured program: its thirteen parts put together. -/
module

public import proofs.«01_k».proof.Proof.KEq00
public import proofs.«01_k».proof.Proof.KEq01
public import proofs.«01_k».proof.Proof.KEq02
public import proofs.«01_k».proof.Proof.KEq10
public import proofs.«01_k».proof.Proof.KEq11
public import proofs.«01_k».proof.Proof.KEq12
public import proofs.«01_k».proof.Proof.KEq20
public import proofs.«01_k».proof.Proof.KEq21
public import proofs.«01_k».proof.Proof.KEq22
public import proofs.«01_k».proof.Proof.KEq30
public import proofs.«01_k».proof.Proof.KEq31
public import proofs.«01_k».proof.Proof.KEq32

@[expose] public section

noncomputable section

namespace Cert.KernelIdeal

open Idealize.ShloMosaic Idealize.SL.Sem

variable [Facts]

/-- Something of every type of element over the extended reals. -/
def elt0 : (e : EltTy) → Elt Ideal e
  | .i1 | .i4 | .i8 | .i16 | .i32 | .i64 => 0#_
  | .fp8e4m3 | .fp8e5m2 | .bf16 | .f16 | .f32 => (0 : EReal)

/-- The loop over the query tiles and the heads, written out. -/
theorem loops {F : FTy → Type} [FloatOps F] [Named F] (u : (t r : Nat) → t < 4 → r < 3 → KP F PUnit) :
    loop 4 (fun t ht (_ : PUnit) => loop 3 (fun r hr (_ : PUnit) => u t r ht hr) ⟨⟩) ⟨⟩ = (u 0 0 (by omega) (by omega) >>= fun _ =>
      u 0 1 (by omega) (by omega) >>= fun _ =>
      u 0 2 (by omega) (by omega) >>= fun _ =>
      u 1 0 (by omega) (by omega) >>= fun _ =>
      u 1 1 (by omega) (by omega) >>= fun _ =>
      u 1 2 (by omega) (by omega) >>= fun _ =>
      u 2 0 (by omega) (by omega) >>= fun _ =>
      u 2 1 (by omega) (by omega) >>= fun _ =>
      u 2 2 (by omega) (by omega) >>= fun _ =>
      u 3 0 (by omega) (by omega) >>= fun _ =>
      u 3 1 (by omega) (by omega) >>= fun _ =>
      u 3 2 (by omega) (by omega) >>= fun _ => .ret ⟨⟩) := by
  have h : ∀ p : KP F PUnit, (p >>= fun _ => .ret ⟨⟩) = p := fun p => bind_pure p
  simp only [loop, bind_assoc, pure_bind, h]

set_option maxRecDepth 100000 in
/-- The printed body is the structured program. -/
theorem body_eq (i : grid0.Coords) (B : Bufs) : body (F := Ideal) i B = kprog B := by
  have o := elt0
  unfold kprog
  rw [loops fun t r ht hr => unit B t r ((3 * t + r) % 2) ht hr (by omega)]
  refine (body_pro o i B).trans (congrArg (proP B >>= ·) (funext fun _ => ?_))
  refine (body_0_0 o i B).trans (congrArg (unit B 0 0 0 (by omega) (by omega) (by omega) >>= ·) (funext fun _ => ?_))
  refine (body_0_1 o i B).trans (congrArg (unit B 0 1 1 (by omega) (by omega) (by omega) >>= ·) (funext fun _ => ?_))
  refine (body_0_2 o i B).trans (congrArg (unit B 0 2 0 (by omega) (by omega) (by omega) >>= ·) (funext fun _ => ?_))
  refine (body_1_0 o i B).trans (congrArg (unit B 1 0 1 (by omega) (by omega) (by omega) >>= ·) (funext fun _ => ?_))
  refine (body_1_1 o i B).trans (congrArg (unit B 1 1 0 (by omega) (by omega) (by omega) >>= ·) (funext fun _ => ?_))
  refine (body_1_2 o i B).trans (congrArg (unit B 1 2 1 (by omega) (by omega) (by omega) >>= ·) (funext fun _ => ?_))
  refine (body_2_0 o i B).trans (congrArg (unit B 2 0 0 (by omega) (by omega) (by omega) >>= ·) (funext fun _ => ?_))
  refine (body_2_1 o i B).trans (congrArg (unit B 2 1 1 (by omega) (by omega) (by omega) >>= ·) (funext fun _ => ?_))
  refine (body_2_2 o i B).trans (congrArg (unit B 2 2 0 (by omega) (by omega) (by omega) >>= ·) (funext fun _ => ?_))
  refine (body_3_0 o i B).trans (congrArg (unit B 3 0 1 (by omega) (by omega) (by omega) >>= ·) (funext fun _ => ?_))
  refine (body_3_1 o i B).trans (congrArg (unit B 3 1 0 (by omega) (by omega) (by omega) >>= ·) (funext fun _ => ?_))
  refine (body_3_2 o i B).trans (congrArg (unit B 3 2 1 (by omega) (by omega) (by omega) >>= ·) (funext fun _ => ?_))
  exact body_end o i B

end Cert.KernelIdeal
-- ==== Proof.Hoare.lean ====
/- Triples over the contents of the kernel's buffers: a program of loads and stores takes contents to contents. Each rule
   is proved once, for every buffer. -/
module

public import proofs.«01_k».proof.Proof.KUnit
public import proofs.«01_k».proof.Proof.Gen.KernelIdeal.Launch
public import Idealize.ShloMosaic.Lib.Pipeline.FrameBody
public import Idealize.ShloMosaic.Lib.Writes
public import Idealize.ShloMosaic.Lib.Tactic

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (F) in
/-- What the buffers hold. -/
structure Sg where
  x2 : Vec F S1x3x1024x128 .fp8e4m3
  x3 : Vec F S1x3x4x1024 .i8
  x4 : Vec F S1x1x1024x128 .fp8e4m3
  x5 : Vec F S1x1x4x1024 .i8
  x6 : Vec F S1x1x1024x128 .fp8e4m3
  x7 : Vec F S1x1x32x128 .i8
  x8 : Vec F S1x1024x384 .bf16
  x9 : Vec F S3x128x1024 .bf16
  x10 : Vec F S1024x128 .bf16
  x11 : Vec F S128x1024 .bf16
  x12 : Vec F S2x1024x256 .f32
  x13 : Vec F S2x2x256x128 .f32
  x14 : Vec F S2x2x32x128 .f32
  x15 : Vec F S2x2x32x128 .i32
  x16 : Vec F S2x1024x256 .bf16

/-- Core `c` holds the buffers at the contents `σ`. -/
def St (B : Bufs) (c : Dev nD) (σ : Sg F) : sProp 𝕄 :=
  iprop(owns (c : Thread nD τ) B.a2 fullShare σ.x2 ∗ owns (c : Thread nD τ) B.a3 fullShare σ.x3 ∗ owns (c : Thread nD τ) B.a4 fullShare σ.x4
    ∗ owns (c : Thread nD τ) B.a5 fullShare σ.x5 ∗ owns (c : Thread nD τ) B.a6 fullShare σ.x6 ∗ owns (c : Thread nD τ) B.a7 fullShare σ.x7
    ∗ owns (c : Thread nD τ) B.a8 fullShare σ.x8 ∗ owns (c : Thread nD τ) B.a9 fullShare σ.x9 ∗ owns (c : Thread nD τ) B.a10 fullShare σ.x10
    ∗ owns (c : Thread nD τ) B.a11 fullShare σ.x11 ∗ owns (c : Thread nD τ) B.a12 fullShare σ.x12 ∗ owns (c : Thread nD τ) B.a13 fullShare σ.x13
    ∗ owns (c : Thread nD τ) B.a14 fullShare σ.x14 ∗ owns (c : Thread nD τ) B.a15 fullShare σ.x15 ∗ owns (c : Thread nD τ) B.a16 fullShare σ.x16)

variable (B : Bufs) (c : Dev nD)

/-- From the contents `σ` the program runs to an answer and contents as in `Q`. -/
def Tri {α : Type} (σ : Sg F) (p : KP F α) (Q : α → Sg F → Prop) : Prop :=
  (St B c σ : sProp 𝕄) ⊢ wp frame (wpE (defs₀ (F := F)) Variants.none (c : Thread nD τ) none) Set.univ p
    (fun a => iprop(∃ σ', ⌜Q a σ'⌝ ∗ St B c σ'))

/-- One buffer is among those held, and can be given back with other contents. -/
structure Focus {s : Shape} {e : EltTy} (m : Memref sig .tc .vmem s e) (get : Sg F → Vec F s e) (set : Sg F → Vec F s e → Sg F) : Prop where
  split : ∀ σ, (St B c σ : sProp 𝕄) ⊢ iprop(owns (c : Thread nD τ) m fullShare (get σ) ∗
    (∀ X, owns (c : Thread nD τ) m fullShare X -∗ St B c (set σ X)))
  same : ∀ σ, set σ (get σ) = σ

variable {B c}

/-- A program that only returns keeps what already holds. -/
theorem Tri.ret {α : Type} {σ : Sg F} {a : α} {Q : α → Sg F → Prop} (h : Q a σ) : Tri B c σ (pure a : KP F α) Q := by
  unfold Tri
  rw [wp_pure]
  iintro H
  imodintro
  iexists σ
  isplitr
  · ipureintro; exact h
  iexact H

/-- A triple may be weakened: more asked before, less promised after. -/
theorem Tri.mono {α : Type} {σ : Sg F} {p : KP F α} {Q R : α → Sg F → Prop} (h : Tri B c σ p Q) (hQ : ∀ a σ', Q a σ' → R a σ') :
    Tri B c σ p R := by
  unfold Tri at h ⊢
  refine h.trans (wp_mono _ _ _ fun a => ?_)
  iintro ⟨%σ', %hq, H⟩
  iexists σ'
  isplitr
  · ipureintro; exact hQ a σ' hq
  iexact H

/-- Two programs in sequence: what the first ensures is what the second asks. -/
theorem Tri.bind {α β : Type} {σ : Sg F} {p : KP F α} {k : α → KP F β} {Q : α → Sg F → Prop} {R : β → Sg F → Prop}
    (h : Tri B c σ p Q) (hk : ∀ a σ', Q a σ' → Tri B c σ' (k a) R) : Tri B c σ (p >>= k) R := by
  unfold Tri at h hk ⊢
  rw [wp_bind]
  refine h.trans (wp_mono _ _ _ fun a => ?_)
  iintro ⟨%σ', %hq, H⟩
  iapply (hk a σ' hq)
  iexact H

/-- A loop, by what holds before each step. -/
theorem Tri.loop {α : Type} (I : Nat → α → Sg F → Prop) : (n : Nat) → (f : (j : Nat) → j < n → α → KP F α) → {a : α} → {σ : Sg F} →
    I 0 a σ → (∀ j hj a σ, I j a σ → Tri B c σ (f j hj a) (I (j + 1))) → Tri B c σ (loop n f a) (I n)
  | 0, _, _, _, h0, _ => Tri.ret h0
  | n + 1, f, _, _, h0, hs => Tri.bind (Tri.loop I n _ h0 fun j hj a σ hI => hs j _ a σ hI) fun b σ' hI => hs n _ b σ' hI

/-- A load answers with what the buffer holds there. -/
theorem Tri.load {s : Shape} {e : EltTy} {m : Memref sig .tc .vmem s e} {get : Sg F → Vec F s e} {set : Sg F → Vec F s e → Sg F}
    (hf : Focus B c m get set) {σ : Sg F} {r : LoadRect s} {h : 0 < r.shape.numel} {Q : Vec F r.shape e → Sg F → Prop}
    (hQ : Q (fun x => get σ (r.idx x)) σ) : Tri B c σ (ld m r h) Q := by
  unfold Tri
  refine (hf.split σ).trans ?_
  unfold owns
  iintro ⟨⟨%f, %hX, H⟩, Hr⟩
  iapply (wp_load Variants.none (c : Thread nD τ) none Set.univ (m := m) (r := r) (k := fun x => .ret x) (S := m.view.set) (f := f)
    (View.setOn_subset_set _ _)) $$ H
  iintro H
  rw [wp_ret]
  imodintro
  iexists σ
  isplitr
  · ipureintro
    rw [show m.view.readAt (Elt F) r f = fun x => get σ (r.idx x) from funext fun x => congrFun hX _]
    exact hQ
  rw [← congrArg (St B c) (hf.same σ)]
  iapply Hr
  iexists f
  isplitr
  · ipureintro; exact hX
  iexact H

/-- A store in place leaves the stored vector there and the buffer's other elements as they were. -/
theorem Tri.put {s : Shape} {e : EltTy} {m : Memref sig .tc .vmem s e} {get : Sg F → Vec F s e} {set : Sg F → Vec F s e → Sg F}
    (hf : Focus B c m get set) {σ : Sg F} {r : Rect s} {w : Vec F r.shape e} {h : 0 < r.shape.numel}
    {hs : (m.access r).Stores Finset.univ} {Q : PUnit → Sg F → Prop}
    (hQ : ∀ X : Vec F s e, (∀ x, X (r.emb x) = w x) → (∀ y, (∀ x, r.emb x ≠ y) → X y = get σ y) → Q ⟨⟩ (set σ X)) :
    Tri B c σ (put m r w h hs) Q := by
  refine Tri.bind (Q := fun _ σ' => σ' = σ) (Tri.load hf rfl) ?_
  rintro _ _ rfl
  unfold Tri
  refine (hf.split _).trans ?_
  unfold owns
  iintro ⟨⟨%f, %hX, H⟩, Hr⟩
  iapply (wp_store Variants.none (c : Thread nD τ) none Set.univ (m := m) (r := r) (w := w) (Mk := Finset.univ) (k := fun x => .ret x)
    (S := m.view.set) (f := f) (Memref.setOn_access_subset _ _ _)) $$ H
  iintro H
  rw [wp_ret]
  imodintro
  iexists (set _ (m.view.read (Elt F) ((m.access r).write (Elt F) f w Finset.univ)))
  isplitr
  · ipureintro
    refine hQ _ (fun x => View.read_slice_write_emb r f w (Finset.mem_univ x)) fun y hy => ?_
    rw [View.read_slice_write_of_not_mem r f w Finset.univ (by
      intro hm; obtain ⟨x, -, hx⟩ := Finset.mem_map.mp hm; exact hy x hx), hX]
  iapply Hr
  iexists _
  isplitr
  · ipureintro; rfl
  iexact H

end Cert.KernelIdeal
-- ==== Proof.KFocus.lean ====
/- Each buffer among those held, and the loads and stores of two, three and four coordinates told by their coordinates. -/
module

public import proofs.«01_k».proof.Proof.Hoare
public import Idealize.ShloMosaic.Lib.Pointwise

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (B : Bufs) (c : Dev nD)

/-- Buffer 2 is among those held. -/
theorem foc2 : Focus (F := F) B c B.a2 Sg.x2 (fun σ X => { σ with x2 := X }) where
  split σ := by
    unfold St
    iintro ⟨H2, H3, H4, H5, H6, H7, H8, H9, H10, H11, H12, H13, H14, H15, H16⟩
    isplitl [H2]
    · iexact H2
    iintro %X HX
    isplitl [HX]
    · iexact HX
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    iexact H16
  same _ := rfl

/-- Buffer 3 is among those held. -/
theorem foc3 : Focus (F := F) B c B.a3 Sg.x3 (fun σ X => { σ with x3 := X }) where
  split σ := by
    unfold St
    iintro ⟨H2, H3, H4, H5, H6, H7, H8, H9, H10, H11, H12, H13, H14, H15, H16⟩
    isplitl [H3]
    · iexact H3
    iintro %X HX
    isplitl [H2]
    · iexact H2
    isplitl [HX]
    · iexact HX
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    iexact H16
  same _ := rfl

/-- Buffer 4 is among those held. -/
theorem foc4 : Focus (F := F) B c B.a4 Sg.x4 (fun σ X => { σ with x4 := X }) where
  split σ := by
    unfold St
    iintro ⟨H2, H3, H4, H5, H6, H7, H8, H9, H10, H11, H12, H13, H14, H15, H16⟩
    isplitl [H4]
    · iexact H4
    iintro %X HX
    isplitl [H2]
    · iexact H2
    isplitl [H3]
    · iexact H3
    isplitl [HX]
    · iexact HX
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    iexact H16
  same _ := rfl

/-- Buffer 5 is among those held. -/
theorem foc5 : Focus (F := F) B c B.a5 Sg.x5 (fun σ X => { σ with x5 := X }) where
  split σ := by
    unfold St
    iintro ⟨H2, H3, H4, H5, H6, H7, H8, H9, H10, H11, H12, H13, H14, H15, H16⟩
    isplitl [H5]
    · iexact H5
    iintro %X HX
    isplitl [H2]
    · iexact H2
    isplitl [H3]
    · iexact H3
    isplitl [H4]
    · iexact H4
    isplitl [HX]
    · iexact HX
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    iexact H16
  same _ := rfl

/-- Buffer 6 is among those held. -/
theorem foc6 : Focus (F := F) B c B.a6 Sg.x6 (fun σ X => { σ with x6 := X }) where
  split σ := by
    unfold St
    iintro ⟨H2, H3, H4, H5, H6, H7, H8, H9, H10, H11, H12, H13, H14, H15, H16⟩
    isplitl [H6]
    · iexact H6
    iintro %X HX
    isplitl [H2]
    · iexact H2
    isplitl [H3]
    · iexact H3
    isplitl [H4]
    · iexact H4
    isplitl [H5]
    · iexact H5
    isplitl [HX]
    · iexact HX
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    iexact H16
  same _ := rfl

/-- Buffer 7 is among those held. -/
theorem foc7 : Focus (F := F) B c B.a7 Sg.x7 (fun σ X => { σ with x7 := X }) where
  split σ := by
    unfold St
    iintro ⟨H2, H3, H4, H5, H6, H7, H8, H9, H10, H11, H12, H13, H14, H15, H16⟩
    isplitl [H7]
    · iexact H7
    iintro %X HX
    isplitl [H2]
    · iexact H2
    isplitl [H3]
    · iexact H3
    isplitl [H4]
    · iexact H4
    isplitl [H5]
    · iexact H5
    isplitl [H6]
    · iexact H6
    isplitl [HX]
    · iexact HX
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    iexact H16
  same _ := rfl

/-- Buffer 8 is among those held. -/
theorem foc8 : Focus (F := F) B c B.a8 Sg.x8 (fun σ X => { σ with x8 := X }) where
  split σ := by
    unfold St
    iintro ⟨H2, H3, H4, H5, H6, H7, H8, H9, H10, H11, H12, H13, H14, H15, H16⟩
    isplitl [H8]
    · iexact H8
    iintro %X HX
    isplitl [H2]
    · iexact H2
    isplitl [H3]
    · iexact H3
    isplitl [H4]
    · iexact H4
    isplitl [H5]
    · iexact H5
    isplitl [H6]
    · iexact H6
    isplitl [H7]
    · iexact H7
    isplitl [HX]
    · iexact HX
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    iexact H16
  same _ := rfl

/-- Buffer 9 is among those held. -/
theorem foc9 : Focus (F := F) B c B.a9 Sg.x9 (fun σ X => { σ with x9 := X }) where
  split σ := by
    unfold St
    iintro ⟨H2, H3, H4, H5, H6, H7, H8, H9, H10, H11, H12, H13, H14, H15, H16⟩
    isplitl [H9]
    · iexact H9
    iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [HX]
    · iexact HX
    isplitl [H10]
    · iexact H10
    isplitl [H11]
    · iexact H11
    isplitl [H12]
    · iexact H12
    isplitl [H13]
    · iexact H13
    isplitl [H14]
    · iexact H14
    isplitl [H15]
    · iexact H15
    iexact H16
  same _ := rfl

/-- Buffer 10 is among those held. -/
theorem foc10 : Focus (F := F) B c B.a10 Sg.x10 (fun σ X => { σ with x10 := X }) where
  split σ := by
    unfold St
    iintro ⟨H2, H3, H4, H5, H6, H7, H8, H9, H10, H11, H12, H13, H14, H15, H16⟩
    isplitl [H10]
    · iexact H10
    iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [HX]
    · iexact HX
    isplitl [H11]
    · iexact H11
    isplitl [H12]
    · iexact H12
    isplitl [H13]
    · iexact H13
    isplitl [H14]
    · iexact H14
    isplitl [H15]
    · iexact H15
    iexact H16
  same _ := rfl

/-- Buffer 11 is among those held. -/
theorem foc11 : Focus (F := F) B c B.a11 Sg.x11 (fun σ X => { σ with x11 := X }) where
  split σ := by
    unfold St
    iintro ⟨H2, H3, H4, H5, H6, H7, H8, H9, H10, H11, H12, H13, H14, H15, H16⟩
    isplitl [H11]
    · iexact H11
    iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [HX]
    · iexact HX
    isplitl [H12]
    · iexact H12
    isplitl [H13]
    · iexact H13
    isplitl [H14]
    · iexact H14
    isplitl [H15]
    · iexact H15
    iexact H16
  same _ := rfl

/-- Buffer 12 is among those held. -/
theorem foc12 : Focus (F := F) B c B.a12 Sg.x12 (fun σ X => { σ with x12 := X }) where
  split σ := by
    unfold St
    iintro ⟨H2, H3, H4, H5, H6, H7, H8, H9, H10, H11, H12, H13, H14, H15, H16⟩
    isplitl [H12]
    · iexact H12
    iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [HX]
    · iexact HX
    isplitl [H13]
    · iexact H13
    isplitl [H14]
    · iexact H14
    isplitl [H15]
    · iexact H15
    iexact H16
  same _ := rfl

/-- Buffer 13 is among those held. -/
theorem foc13 : Focus (F := F) B c B.a13 Sg.x13 (fun σ X => { σ with x13 := X }) where
  split σ := by
    unfold St
    iintro ⟨H2, H3, H4, H5, H6, H7, H8, H9, H10, H11, H12, H13, H14, H15, H16⟩
    isplitl [H13]
    · iexact H13
    iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [HX]
    · iexact HX
    isplitl [H14]
    · iexact H14
    isplitl [H15]
    · iexact H15
    iexact H16
  same _ := rfl

/-- Buffer 14 is among those held. -/
theorem foc14 : Focus (F := F) B c B.a14 Sg.x14 (fun σ X => { σ with x14 := X }) where
  split σ := by
    unfold St
    iintro ⟨H2, H3, H4, H5, H6, H7, H8, H9, H10, H11, H12, H13, H14, H15, H16⟩
    isplitl [H14]
    · iexact H14
    iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [HX]
    · iexact HX
    isplitl [H15]
    · iexact H15
    iexact H16
  same _ := rfl

/-- Buffer 15 is among those held. -/
theorem foc15 : Focus (F := F) B c B.a15 Sg.x15 (fun σ X => { σ with x15 := X }) where
  split σ := by
    unfold St
    iintro ⟨H2, H3, H4, H5, H6, H7, H8, H9, H10, H11, H12, H13, H14, H15, H16⟩
    isplitl [H15]
    · iexact H15
    iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [HX]
    · iexact HX
    iexact H16
  same _ := rfl

/-- Buffer 16 is among those held. -/
theorem foc16 : Focus (F := F) B c B.a16 Sg.x16 (fun σ X => { σ with x16 := X }) where
  split σ := by
    unfold St
    iintro ⟨H2, H3, H4, H5, H6, H7, H8, H9, H10, H11, H12, H13, H14, H15, H16⟩
    isplitl [H16]
    · iexact H16
    iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    iexact HX
  same _ := rfl

variable {B c}

/-- The element of a tensor of rank two at two naturals. -/
def g2 {p q : Nat} [NeZero p] [NeZero q] {α : Type} (X : (⟨2, ![p, q]⟩ : Shape).Idx → α) (a b : Nat) : α :=
  X (ix2 (Fin.ofNat p a) (Fin.ofNat q b))

/-- The element of a tensor of rank three at three naturals. -/
def g3 {p q r : Nat} [NeZero p] [NeZero q] [NeZero r] {α : Type} (X : (⟨3, ![p, q, r]⟩ : Shape).Idx → α) (a b c : Nat) : α :=
  X (ix3 (Fin.ofNat p a) (Fin.ofNat q b) (Fin.ofNat r c))

/-- The element of a tensor of rank four at four naturals. -/
def g4 {p q r s : Nat} [NeZero p] [NeZero q] [NeZero r] [NeZero s] {α : Type} (X : (⟨4, ![p, q, r, s]⟩ : Shape).Idx → α)
    (a b c d : Nat) : α :=
  X (ix4 (Fin.ofNat p a) (Fin.ofNat q b) (Fin.ofNat r c) (Fin.ofNat s d))

/-- A natural number below the bound, as an index, is itself. -/
theorem ofNat_eq {p : Nat} [NeZero p] (a : Fin p) (n : Nat) (h : n = a.val) : Fin.ofNat p n = a :=
  Fin.ext (by subst h; exact Nat.mod_eq_of_lt a.isLt)

section
variable {p q r s : Nat} [NeZero p] [NeZero q] [NeZero r] [NeZero s] {α : Type}

/-- The index read by this access, in coordinates. -/
theorem g2_ix (X : (⟨2, ![p, q]⟩ : Shape).Idx → α) (a : Fin p) (b : Fin q) : X (ix2 a b) = g2 X a b := by
  unfold g2; rw [ofNat_eq a _ rfl, ofNat_eq b _ rfl]

/-- The index read by this access, in coordinates. -/
theorem g3_ix (X : (⟨3, ![p, q, r]⟩ : Shape).Idx → α) (a : Fin p) (b : Fin q) (c : Fin r) : X (ix3 a b c) = g3 X a b c := by
  unfold g3; rw [ofNat_eq a _ rfl, ofNat_eq b _ rfl, ofNat_eq c _ rfl]

/-- The index read by this access, in coordinates. -/
theorem g4_ix (X : (⟨4, ![p, q, r, s]⟩ : Shape).Idx → α) (a : Fin p) (b : Fin q) (c : Fin r) (d : Fin s) :
    X (ix4 a b c d) = g4 X a b c d := by
  unfold g4; rw [ofNat_eq a _ rfl, ofNat_eq b _ rfl, ofNat_eq c _ rfl, ofNat_eq d _ rfl]

/-- A load of a rank-two buffer. -/
theorem ld2 (X : (⟨2, ![p, q]⟩ : Shape).Idx → α) {a b x y : Nat} {hb} (i : Fin x) (j : Fin y) :
    X ((Rect.unit (s := ⟨2, ![p, q]⟩) ![a, b] ![x, y] hb).toLoadRect.idx (ix2 i j)) = g2 X (a + i) (b + j) := by
  have h0 : a + x ≤ p := hb 0
  have h1 : b + y ≤ q := hb 1
  refine congrArg X (funext fun u => Fin.ext ?_)
  match u with
  | 0 => show a + 1 * i.val = (a + i.val) % p; rw [Nat.mod_eq_of_lt (by omega)]; omega
  | 1 => show b + 1 * j.val = (b + j.val) % q; rw [Nat.mod_eq_of_lt (by omega)]; omega

/-- A load of a rank-three buffer. -/
theorem ld3 (X : (⟨3, ![p, q, r]⟩ : Shape).Idx → α) {a b c x y z : Nat} {hb} (i : Fin x) (j : Fin y) (k : Fin z) :
    X ((Rect.unit (s := ⟨3, ![p, q, r]⟩) ![a, b, c] ![x, y, z] hb).toLoadRect.idx (ix3 i j k)) = g3 X (a + i) (b + j) (c + k) := by
  have h0 : a + x ≤ p := hb 0
  have h1 : b + y ≤ q := hb 1
  have h2 : c + z ≤ r := hb 2
  refine congrArg X (funext fun u => Fin.ext ?_)
  match u with
  | 0 => show a + 1 * i.val = (a + i.val) % p; rw [Nat.mod_eq_of_lt (by omega)]; omega
  | 1 => show b + 1 * j.val = (b + j.val) % q; rw [Nat.mod_eq_of_lt (by omega)]; omega
  | 2 => show c + 1 * k.val = (c + k.val) % r; rw [Nat.mod_eq_of_lt (by omega)]; omega

/-- A load of a rank-four buffer. -/
theorem ld4 (X : (⟨4, ![p, q, r, s]⟩ : Shape).Idx → α) {a b c d x y z w : Nat} {hb} (i : Fin x) (j : Fin y) (k : Fin z) (l : Fin w) :
    X ((Rect.unit (s := ⟨4, ![p, q, r, s]⟩) ![a, b, c, d] ![x, y, z, w] hb).toLoadRect.idx (ix4 i j k l))
      = g4 X (a + i) (b + j) (c + k) (d + l) := by
  have h0 : a + x ≤ p := hb 0
  have h1 : b + y ≤ q := hb 1
  have h2 : c + z ≤ r := hb 2
  have h3 : d + w ≤ s := hb 3
  refine congrArg X (funext fun u => Fin.ext ?_)
  match u with
  | 0 => show a + 1 * i.val = (a + i.val) % p; rw [Nat.mod_eq_of_lt (by omega)]; omega
  | 1 => show b + 1 * j.val = (b + j.val) % q; rw [Nat.mod_eq_of_lt (by omega)]; omega
  | 2 => show c + 1 * k.val = (c + k.val) % r; rw [Nat.mod_eq_of_lt (by omega)]; omega
  | 3 => show d + 1 * l.val = (d + l.val) % s; rw [Nat.mod_eq_of_lt (by omega)]; omega

end

section
variable {p q r s : Nat} [NeZero p] [NeZero q] [NeZero r] [NeZero s] {e : EltTy}

/-- A store to a rank-two buffer: the stored elements are the vector's, the others as before. -/
theorem Tri.put2 {m : Memref sig .tc .vmem ⟨2, ![p, q]⟩ e} {get : Sg F → Vec F ⟨2, ![p, q]⟩ e}
    {set : Sg F → Vec F ⟨2, ![p, q]⟩ e → Sg F} (hf : Focus B c m get set) {σ : Sg F} {a b x y : Nat} {hb}
    {w : Vec F (Rect.unit (s := ⟨2, ![p, q]⟩) ![a, b] ![x, y] hb).shape e} {h} {hs} {Q : PUnit → Sg F → Prop}
    (hQ : ∀ X : Vec F ⟨2, ![p, q]⟩ e, (∀ (i : Fin x) (j : Fin y), g2 X (a + i) (b + j) = w (ix2 i j)) →
      (∀ i j, i < p → j < q → (i < a ∨ a + x ≤ i) ∨ (j < b ∨ b + y ≤ j) → g2 X i j = g2 (get σ) i j) → Q ⟨⟩ (set σ X)) :
    Tri B c σ (Cert.KernelIdeal.put m (Rect.unit (s := ⟨2, ![p, q]⟩) ![a, b] ![x, y] hb) w h hs) Q := by
  refine Tri.put hf fun X h1 h2 => hQ X (fun i j => ?_) fun i j hi hj ho => ?_
  · rw [← h1 (ix2 i j)]; exact (ld2 X i j).symm
  · refine h2 _ fun z hz => ?_
    have e0 := congrArg Fin.val (congrFun hz 0)
    have e1 := congrArg Fin.val (congrFun hz 1)
    have z0 : (z 0).val < x := (z 0).isLt
    have z1 : (z 1).val < y := (z 1).isLt
    change a + 1 * (z 0).val = i % p at e0
    change b + 1 * (z 1).val = j % q at e1
    rw [Nat.mod_eq_of_lt hi] at e0
    rw [Nat.mod_eq_of_lt hj] at e1
    omega

/-- A store to a rank-three buffer. -/
theorem Tri.put3 {m : Memref sig .tc .vmem ⟨3, ![p, q, r]⟩ e} {get : Sg F → Vec F ⟨3, ![p, q, r]⟩ e}
    {set : Sg F → Vec F ⟨3, ![p, q, r]⟩ e → Sg F} (hf : Focus B c m get set) {σ : Sg F} {a b d x y z : Nat} {hb}
    {w : Vec F (Rect.unit (s := ⟨3, ![p, q, r]⟩) ![a, b, d] ![x, y, z] hb).shape e} {h} {hs} {Q : PUnit → Sg F → Prop}
    (hQ : ∀ X : Vec F ⟨3, ![p, q, r]⟩ e, (∀ (i : Fin x) (j : Fin y) (k : Fin z), g3 X (a + i) (b + j) (d + k) = w (ix3 i j k)) →
      (∀ i j k, i < p → j < q → k < r → (i < a ∨ a + x ≤ i) ∨ (j < b ∨ b + y ≤ j) ∨ (k < d ∨ d + z ≤ k) →
        g3 X i j k = g3 (get σ) i j k) → Q ⟨⟩ (set σ X)) :
    Tri B c σ (Cert.KernelIdeal.put m (Rect.unit (s := ⟨3, ![p, q, r]⟩) ![a, b, d] ![x, y, z] hb) w h hs) Q := by
  refine Tri.put hf fun X h1 h2 => hQ X (fun i j k => ?_) fun i j k hi hj hk ho => ?_
  · rw [← h1 (ix3 i j k)]; exact (ld3 X i j k).symm
  · refine h2 _ fun v hz => ?_
    have e0 := congrArg Fin.val (congrFun hz 0)
    have e1 := congrArg Fin.val (congrFun hz 1)
    have e2 := congrArg Fin.val (congrFun hz 2)
    have z0 : (v 0).val < x := (v 0).isLt
    have z1 : (v 1).val < y := (v 1).isLt
    have z2 : (v 2).val < z := (v 2).isLt
    change a + 1 * (v 0).val = i % p at e0
    change b + 1 * (v 1).val = j % q at e1
    change d + 1 * (v 2).val = k % r at e2
    rw [Nat.mod_eq_of_lt hi] at e0
    rw [Nat.mod_eq_of_lt hj] at e1
    rw [Nat.mod_eq_of_lt hk] at e2
    omega

/-- A store to a rank-four buffer. -/
theorem Tri.put4 {m : Memref sig .tc .vmem ⟨4, ![p, q, r, s]⟩ e} {get : Sg F → Vec F ⟨4, ![p, q, r, s]⟩ e}
    {set : Sg F → Vec F ⟨4, ![p, q, r, s]⟩ e → Sg F} (hf : Focus B c m get set) {σ : Sg F} {a b d f x y z u : Nat} {hb}
    {w : Vec F (Rect.unit (s := ⟨4, ![p, q, r, s]⟩) ![a, b, d, f] ![x, y, z, u] hb).shape e} {h} {hs} {Q : PUnit → Sg F → Prop}
    (hQ : ∀ X : Vec F ⟨4, ![p, q, r, s]⟩ e,
      (∀ (i : Fin x) (j : Fin y) (k : Fin z) (l : Fin u), g4 X (a + i) (b + j) (d + k) (f + l) = w (ix4 i j k l)) →
      (∀ i j k l, i < p → j < q → k < r → l < s →
        (i < a ∨ a + x ≤ i) ∨ (j < b ∨ b + y ≤ j) ∨ (k < d ∨ d + z ≤ k) ∨ (l < f ∨ f + u ≤ l) →
        g4 X i j k l = g4 (get σ) i j k l) → Q ⟨⟩ (set σ X)) :
    Tri B c σ (Cert.KernelIdeal.put m (Rect.unit (s := ⟨4, ![p, q, r, s]⟩) ![a, b, d, f] ![x, y, z, u] hb) w h hs) Q := by
  refine Tri.put hf fun X h1 h2 => hQ X (fun i j k l => ?_) fun i j k l hi hj hk hl ho => ?_
  · rw [← h1 (ix4 i j k l)]; exact (ld4 X i j k l).symm
  · refine h2 _ fun v hz => ?_
    have e0 := congrArg Fin.val (congrFun hz 0)
    have e1 := congrArg Fin.val (congrFun hz 1)
    have e2 := congrArg Fin.val (congrFun hz 2)
    have e3 := congrArg Fin.val (congrFun hz 3)
    have z0 : (v 0).val < x := (v 0).isLt
    have z1 : (v 1).val < y := (v 1).isLt
    have z2 : (v 2).val < z := (v 2).isLt
    have z3 : (v 3).val < u := (v 3).isLt
    change a + 1 * (v 0).val = i % p at e0
    change b + 1 * (v 1).val = j % q at e1
    change d + 1 * (v 2).val = k % r at e2
    change f + 1 * (v 3).val = l % s at e3
    rw [Nat.mod_eq_of_lt hi] at e0
    rw [Nat.mod_eq_of_lt hj] at e1
    rw [Nat.mod_eq_of_lt hk] at e2
    rw [Nat.mod_eq_of_lt hl] at e3
    omega

end

section
variable {p q r s : Nat} [NeZero p] [NeZero q] [NeZero r] [NeZero s] {e : EltTy}

/-- A load of a rank-two buffer answers with its elements there. -/
theorem Tri.load2 {m : Memref sig .tc .vmem ⟨2, ![p, q]⟩ e} {get : Sg F → Vec F ⟨2, ![p, q]⟩ e}
    {set : Sg F → Vec F ⟨2, ![p, q]⟩ e → Sg F} (hf : Focus B c m get set) {σ : Sg F} {a b x y : Nat} {hb} {h}
    {Q : Vec F (Rect.unit (s := ⟨2, ![p, q]⟩) ![a, b] ![x, y] hb).shape e → Sg F → Prop}
    (hQ : ∀ v, (∀ (i : Fin x) (j : Fin y), v (ix2 i j) = g2 (get σ) (a + i) (b + j)) → Q v σ) :
    Tri B c σ (ld m (Rect.unit (s := ⟨2, ![p, q]⟩) ![a, b] ![x, y] hb).toLoadRect h) Q :=
  Tri.load hf (hQ _ fun i j => ld2 (get σ) i j)

/-- A load of a rank-three buffer. -/
theorem Tri.load3 {m : Memref sig .tc .vmem ⟨3, ![p, q, r]⟩ e} {get : Sg F → Vec F ⟨3, ![p, q, r]⟩ e}
    {set : Sg F → Vec F ⟨3, ![p, q, r]⟩ e → Sg F} (hf : Focus B c m get set) {σ : Sg F} {a b d x y z : Nat} {hb} {h}
    {Q : Vec F (Rect.unit (s := ⟨3, ![p, q, r]⟩) ![a, b, d] ![x, y, z] hb).shape e → Sg F → Prop}
    (hQ : ∀ v, (∀ (i : Fin x) (j : Fin y) (k : Fin z), v (ix3 i j k) = g3 (get σ) (a + i) (b + j) (d + k)) → Q v σ) :
    Tri B c σ (ld m (Rect.unit (s := ⟨3, ![p, q, r]⟩) ![a, b, d] ![x, y, z] hb).toLoadRect h) Q :=
  Tri.load hf (hQ _ fun i j k => ld3 (get σ) i j k)

/-- A load of a rank-four buffer. -/
theorem Tri.load4 {m : Memref sig .tc .vmem ⟨4, ![p, q, r, s]⟩ e} {get : Sg F → Vec F ⟨4, ![p, q, r, s]⟩ e}
    {set : Sg F → Vec F ⟨4, ![p, q, r, s]⟩ e → Sg F} (hf : Focus B c m get set) {σ : Sg F} {a b d f x y z u : Nat} {hb} {h}
    {Q : Vec F (Rect.unit (s := ⟨4, ![p, q, r, s]⟩) ![a, b, d, f] ![x, y, z, u] hb).shape e → Sg F → Prop}
    (hQ : ∀ v, (∀ (i : Fin x) (j : Fin y) (k : Fin z) (l : Fin u),
      v (ix4 i j k l) = g4 (get σ) (a + i) (b + j) (d + k) (f + l)) → Q v σ) :
    Tri B c σ (ld m (Rect.unit (s := ⟨4, ![p, q, r, s]⟩) ![a, b, d, f] ![x, y, z, u] hb).toLoadRect h) Q :=
  Tri.load hf (hQ _ fun i j k l => ld4 (get σ) i j k l)

end

/-- A load of every eighth row of a half of the maxima buffer. -/
theorem Tri.loadB {m : Memref sig .tc .vmem S2x2x256x128 .f32} {get : Sg F → Vec F S2x2x256x128 .f32}
    {set : Sg F → Vec F S2x2x256x128 .f32 → Sg F} (hf : Focus B c m get set) {σ : Sg F} {w h' i n : Nat} {hw hh hi hn} {h}
    {Q : Vec F (rB w h' i n hw hh hi hn).shape .f32 → Sg F → Prop}
    (hQ : ∀ v : Vec F (S11n n) .f32, (∀ (j : Fin n) (l : Fin 128), v (ix4 0 0 j l) = g4 (get σ) w h' (i + 8 * j) l) → Q v σ) :
    Tri B c σ (ld m (rB w h' i n hw hh hi hn) h) Q := by
  refine Tri.load hf (hQ _ fun j l => ?_)
  refine congrArg (get σ) (funext fun u => Fin.ext ?_)
  have hj := j.isLt
  have hl := l.isLt
  match u with
  | 0 => show w + 1 * 0 = w % 2; omega
  | 1 => show h' + 1 * 0 = h' % 2; omega
  | 2 => show i + 8 * j.val = (i + 8 * j.val) % 256; omega
  | 3 => show 0 + 1 * l.val = l.val % 128; omega

end Cert.KernelIdeal
-- ==== Proof.KVal.lean ====
/- What the kernel's values are, element by element, over the extended reals. -/
module

public import proofs.«01_k».proof.Proof.KUnit
public import Idealize.ShloMosaic.Lib.Pointwise
public import Idealize.ShloMosaic.Lib.MatmulPlain
public import Idealize.ShloMosaic.Lib.BitcastPair

@[expose] public section

noncomputable section

namespace Cert.KernelIdeal

open Idealize.ShloMosaic Idealize.SL.Sem

variable [Facts]

/-- The f32 whose bits are a code in the exponent field. -/
def pw (b : BitVec 32) : EReal := Ideal.ofBits .f32 (b <<< (23 : Nat))

/-- Shifting a scale code left by 23 places, as a number. -/
theorem shl23 (a : BitVec 32) : IntOp.shli .vector a 23#32 = a <<< (23 : Nat) := rfl

/-- Shifting a scale code left by 7 places, as a number. -/
theorem shl7 (a : BitVec 32) : IntOp.shli .vector a 7#32 = a <<< (7 : Nat) := rfl

/-- The constant that starts a maximum is minus infinity. -/
theorem ninf : Ideal.ofBits .f32 0xFF800000#32 = (⊥ : EReal) := by simp [Ideal.ofBits, Ideal.ieee]

/-- The constant 57344. -/
theorem c57344 : Ideal.ofBits .f32 0x47600000#32 = (57344 : EReal) := by
  simp [Ideal.ofBits, Ideal.ieee, -EReal.coe_mul]; norm_num; rfl

/-- A block's row of 128 lanes under two axes of size one. -/
theorem cast24 {n : Nat} (h : (S11n n).numel = (Sn n).numel) (j : Fin n) (l : Fin 128) :
    Shape.reshapeEquiv h (ix4 0 0 j l : (S11n n).Idx) = (ix2 j l : (Sn n).Idx) :=
  Shape.reshapeEquiv_eq_of_vals _ _ _ (j.val * 128 + l.val) (j.val * 128 + l.val) (rowMajor_val2 _ 128 rfl)
    (by refine (rowMajor_val4 _ (n * 128) (n * 128) 128 (by simp) rfl rfl).trans ?_; simp) rfl

/-- The reshape keeps each entry, at the matching index. -/
theorem cast42 {n : Nat} (h : (Sn n).numel = (S11n n).numel) (j : Fin n) (l : Fin 128) :
    Shape.reshapeEquiv h (ix2 j l : (Sn n).Idx) = (ix4 0 0 j l : (S11n n).Idx) :=
  Shape.reshapeEquiv_eq_of_vals _ _ _ (j.val * 128 + l.val) (j.val * 128 + l.val)
    (by refine (rowMajor_val4 _ (n * 128) (n * 128) 128 (by simp) rfl rfl).trans ?_; simp) (rowMajor_val2 _ 128 rfl) rfl

/-- The reshape keeps each entry, at the matching index. -/
theorem cast32 {n : Nat} (h : (S1n n).numel = (Sn n).numel) (j : Fin n) (l : Fin 128) :
    Shape.reshapeEquiv h (ix3 0 j l : (S1n n).Idx) = (ix2 j l : (Sn n).Idx) :=
  Shape.reshapeEquiv_eq_of_vals _ _ _ (j.val * 128 + l.val) (j.val * 128 + l.val) (rowMajor_val2 _ 128 rfl)
    (by refine (rowMajor_val3 _ (n * 128) 128 rfl rfl).trans ?_; simp) rfl

/-- The reshape keeps each entry, at the matching index. -/
theorem cast23 {k : Nat} (h : (Skq k).numel = (S1kq k).numel) (j : Fin k) (l : Fin 256) :
    Shape.reshapeEquiv h (ix2 j l : (Skq k).Idx) = (ix3 0 j l : (S1kq k).Idx) :=
  Shape.reshapeEquiv_eq_of_vals _ _ _ (j.val * 256 + l.val) (j.val * 256 + l.val)
    (by refine (rowMajor_val3 _ (k * 256) 256 rfl rfl).trans ?_; simp) (rowMajor_val2 _ 256 rfl) rfl

/-- A fold by maximum is a supremum. -/
theorem fold_sup {α : Type} (s : Finset α) (f : α → EReal) : s.fold max ⊥ f = s.sup f := rfl

/-- A count of words of one bit. -/
theorem fold_count {α : Type} (p : α → Prop) [DecidablePred p] (s : Finset α) :
    s.fold IntOp.addi 0#32 (fun m => BitVec.setWidth 32 (BitVec.ofBool (decide (p m)))) = BitVec.ofNat 32 (∑ m ∈ s, if p m then 1 else 0) := by
  classical
  induction s using Finset.induction_on with
  | empty => rfl
  | insert a s ha ih =>
    rw [Finset.fold_insert ha, ih, Finset.sum_insert ha, BitVec.ofNat_add]
    by_cases h : p a
    · simp [h]; rfl
    · simp [h]; show 0#32 + _ = _; simp

/-- The value of `kbOf`, entry by entry. -/
theorem kbOf_apply (v0 : Vec Ideal S1x1x1024x128 .fp8e4m3) (v2 : Vec Ideal S1x1x4x1024 .i8) (key : Fin 1024) (d : Fin 128) :
    kbOf v0 v2 (ix2 key d) = (v0 (ix4 0 0 key d) : EReal) * pw ((v2 (ix4 0 0 ⟨d / 32, by omega⟩ key) : BitVec 8).zeroExtend 32) := by
  pointwise [kbOf, deq, e8]
  rw [shl23]; rfl

/-- The value of `vtOf`, entry by entry. -/
theorem vtOf_apply (v20 : Vec Ideal S1x1x32x128 .i8) (v30 : Vec Ideal S1x1x1024x128 .fp8e4m3) (key : Fin 1024) (d : Fin 128) :
    vtOf v20 v30 (ix2 d key) = (v30 (ix4 0 0 key d) : EReal) * pw ((v20 (ix4 0 0 ⟨key / 32, by omega⟩ d) : BitVec 8).zeroExtend 32) := by
  pointwise [vtOf, e8]
  rw [shl23]; rfl

/-- The value of `qtOf`, entry by entry. -/
theorem qtOf_apply (v0 : Vec Ideal S1x1x1024x128 .fp8e4m3) (v2 : Vec Ideal S1x1x4x1024 .i8) (qp : Fin 1024) (d : Fin 128) :
    qtOf v0 v2 (ix3 0 d qp) = (v0 (ix4 0 0 qp d) : EReal) * pw ((v2 (ix4 0 0 ⟨d / 32, by omega⟩ qp) : BitVec 8).zeroExtend 32) := by
  pointwise [qtOf, deq, e8]
  rw [shl23]; rfl

/-- The value of `sc0`, entry by entry. -/
theorem sc0_apply (q : Vec Ideal S1x128x256 .bf16) (k : Vec Ideal S256x128 .bf16) (i j : Fin 256) :
    sc0 q k (ix2 i j) = ∑ d : Fin 128, (k (ix2 i d) : EReal) * (q (ix3 0 d j) : EReal) := by
  pointwise [sc0]

/-- The value of `sc1`, entry by entry. -/
theorem sc1_apply (q : Vec Ideal S1x128x256 .bf16) (k : Vec Ideal S256x128 .bf16) (i j : Fin 256) :
    sc1 q k (ix2 i j) = if i.val ≤ j.val then sc0 q k (ix2 i j) else (⊥ : EReal) := by
  pointwise [sc1]
  rw [ninf]
  have hi := i.isLt
  have hj := j.isLt
  have e : (BitVec.ofNat 32 i.val).sle (BitVec.ofNat 32 j.val) = decide (i.val ≤ j.val) := by
    have a : (BitVec.ofNat 32 i.val).toNat = i.val := by rw [BitVec.toNat_ofNat]; omega
    have b : (BitVec.ofNat 32 j.val).toNat = j.val := by rw [BitVec.toNat_ofNat]; omega
    rw [BitVec.sle_eq_decide, BitVec.toInt_eq_toNat_of_lt (by omega), BitVec.toInt_eq_toNat_of_lt (by omega), a, b]
    simp
  show Scalar.select (BitVec.ofBool ((BitVec.ofNat 32 i.val).sle (BitVec.ofNat 32 j.val))) _ _ = _
  rw [e]
  by_cases h : i.val ≤ j.val <;> simp [h, Scalar.select]

/-- The value of `scOut`, entry by entry. -/
theorem scOut_apply (x : FVec Ideal S256x256 .f32) (i j : Fin 256) : scOut x (ix3 0 i j) = x (ix2 i j) := by
  pointwise [scOut]

/-- The value of `pm0`, entry by entry. -/
theorem pm0_apply (x : FVec Ideal S256x256 .f32) (m : Fin 64) (l : Fin 128) :
    pm0 x (ix4 0 0 m l) = ((Finset.univ : Finset (Fin 4)).sup fun g => (x (ix2 ⟨m / 8 * 32 + g * 8 + m % 8, by omega⟩ ⟨l, by omega⟩) : EReal)) := by
  pointwise [pm0, pmx]
  exact (congrArg (fun z : EReal => (Finset.univ : Finset (Fin 4)).fold max z _) ninf).trans (fold_sup _ _)

/-- The value of `pm1`, entry by entry. -/
theorem pm1_apply (x : FVec Ideal S256x256 .f32) (m : Fin 64) (l : Fin 128) :
    pm1 x (ix4 0 0 m l) = ((Finset.univ : Finset (Fin 4)).sup fun g => (x (ix2 ⟨m / 8 * 32 + g * 8 + m % 8, by omega⟩ ⟨128 + l, by omega⟩) : EReal)) := by
  pointwise [pm1, pmx]
  exact (congrArg (fun z : EReal => (Finset.univ : Finset (Fin 4)).fold max z _) ninf).trans (fold_sup _ _)

/-- The value of `pv`, entry by entry. -/
theorem pv_apply (mc : FVec Ideal S1x128 .f32) (v : Vec Ideal S1x32x128 .f32) (i : Fin 32) (l : Fin 128) :
    pv mc v (ix2 i l) = Ideal.exp2 ((v (ix3 0 i l) : EReal) * cc (F := Ideal) - mc (ix2 0 l)) := by
  pointwise [pv]
  rfl

/-- The value of `pOut`, entry by entry. -/
theorem pOut_apply (mc : FVec Ideal S1x128 .f32) (v : Vec Ideal S1x32x128 .f32) (i : Fin 32) (l : Fin 128) :
    pOut mc v (ix3 0 i l) = pv mc v (ix2 i l) := by
  pointwise [pOut]

/-- The value of `accStep`, entry by entry. -/
theorem accStep_apply (mc : FVec Ideal S1x128 .f32) (v : Vec Ideal S1x32x128 .f32) (acc : FVec Ideal S8x128 .f32) (i : Fin 8) (l : Fin 128) :
    accStep mc v acc (ix2 i l) = acc (ix2 i l) + ∑ g : Fin 4, (pv mc v (ix2 ⟨g * 8 + i, by omega⟩ l) : EReal) := by
  pointwise [accStep]

/-- The value of `acc0`, entry by entry. -/
theorem acc0_apply (i : Fin 8) (l : Fin 128) : acc0 (F := Ideal) (ix2 i l) = (0 : EReal) := by
  pointwise [acc0]

/-- The value of `rlOf`, entry by entry. -/
theorem rlOf_apply (acc : FVec Ideal S8x128 .f32) (l : Fin 128) :
    rlOf acc (ix2 0 l) = Ideal.div 1 (∑ i : Fin 8, acc (ix2 i l)) := by
  pointwise [rlOf]

variable {n k : Nat} (H : NF n k)

/-- The value of `bmStep`, entry by entry. -/
theorem bmStep_apply (b : FVec Ideal (Sn n) .f32) (v : Vec Ideal (S11n n) .f32) (j : Fin n) (l : Fin 128) :
    bmStep H b v (ix2 j l) = max (b (ix2 j l)) (v (ix4 0 0 j l) : EReal) := by
  pointwise [bmStep]
  rw [cast42]

/-- The value of `mcOf`, entry by entry. -/
theorem mcOf_apply (b : FVec Ideal (Sn n) .f32) (l : Fin 128) :
    mcOf H b (ix2 0 l) = ((Finset.univ : Finset (Fin n)).sup fun j => b (ix2 j l)) * cc (F := Ideal) := by
  pointwise [mcOf]
  rw [ninf]; rfl

/-- The value of `xOf`, entry by entry. -/
theorem xOf_apply (b : FVec Ideal (Sn n) .f32) (mc rl : FVec Ideal S1x128 .f32) (j : Fin n) (l : Fin 128) :
    xOf H b mc rl (ix2 j l) = Ideal.exp2 (b (ix2 j l) * cc (F := Ideal) - mc (ix2 0 l)) * rl (ix2 0 l) * Ideal.ofBits .f32 0x37924925#32 := by
  pointwise [xOf]
  rfl

/-- The value of `cntOf`, entry by entry. -/
theorem cntOf_apply (x : FVec Ideal (Sn n) .f32) (j : Fin n) (l : Fin 128) :
    cntOf H x (ix2 j l) = BitVec.ofNat 32 (∑ m : Fin 126, if x (ix2 j l) < pw (126#32 - BitVec.ofNat 32 m) then 1 else 0) := by
  pointwise [cntOf]
  rw [← fold_count (fun m : Fin 126 => x (ix2 j l) < pw (126#32 - BitVec.ofNat 32 m))]
  refine Finset.fold_congr fun m _ => ?_
  have e : ∀ f : (S1n n).Idx, (f 1).val = j.val → (f 2).val = l.val → f = ix3 0 j l := fun f h1 h2 => by
    funext a
    match a with
    | ⟨0, _⟩ => exact Subsingleton.elim (α := Fin 1) _ _
    | ⟨1, _⟩ => exact Fin.ext h1
    | ⟨2, _⟩ => exact Fin.ext h2
  refine congrArg (fun v : EReal => BitVec.setWidth 32 (BitVec.ofBool (decide (v < pw (126#32 - BitVec.ofNat 32 m))))) ?_
  refine congrArg x ((congrArg (Shape.reshapeEquiv _) (e _ ?_ ?_)).trans (cast32 _ j l))
  · show (if h : n = 1 then (⟨0, _⟩ : Fin n) else ⟨j.val, _⟩ : Fin n).val = j.val
    split
    · have := j.isLt; show 0 = j.val; omega
    · rfl
  · rfl

/-- The value of `eOf`, entry by entry. -/
theorem eOf_apply (x : FVec Ideal (Sn n) .f32) (j : Fin n) (l : Fin 128) :
    eOf H x (ix2 j l) = if x (ix2 j l) = 0 then 0#32 else 0#32 - cntOf H x (ix2 j l) := by
  pointwise [eOf]
  rfl

/-- The value of `fOut`, entry by entry. -/
theorem fOut_apply (e : IVec (Sn n) 32) (rl : FVec Ideal S1x128 .f32) (j : Fin n) (l : Fin 128) :
    fOut H e rl (ix4 0 0 j l) = pw (127#32 - e (ix2 j l)) * rl (ix2 0 l) := by
  pointwise [fOut]
  rw [cast24]; rfl

/-- The value of `scaleOut`, entry by entry. -/
theorem scaleOut_apply (e : IVec (Sn n) 32) (j : Fin n) (l : Fin 128) :
    scaleOut H e (ix4 0 0 j l) = ((e (ix2 j l) + 127#32) <<< (23 : Nat)) ||| ((e (ix2 j l) + 127#32) <<< (7 : Nat)) := by
  pointwise [scaleOut]
  rw [cast24]; rfl

/-- The value of `ptOut`, entry by entry. -/
theorem ptOut_apply (f : Vec Ideal S1x1x1x128 .f32) (p : Vec Ideal S1x32x128 .f32) (w : Vec Ideal S1x1x1x128 .i32) (i : Fin 32) (l : Fin 128) :
    ptOut f p w (ix3 0 i l) = min ((p (ix3 0 i l) : EReal) * (f (ix4 0 0 0 l) : EReal)) 57344
      * Ideal.ofBits .bf16 (((w (ix4 0 0 0 l) : BitVec 32) >>> (16 * (i.val % 2))).setWidth 16) := by
  pointwise [ptOut]
  rw [c57344]
  refine congrArg _ (congrArg _ ?_)
  refine BitVec.eq_of_getLsbD_eq fun q hq => ?_
  rw [bitcast_getLsbD _ _ _ _ hq (by decide)]
  have hb : ∀ (h : S1x1x1x128.ShapeCasts S1x128) (h' : S1x128.Broadcasts S16x128) (a : S16x128.Idx),
      broadcastTo S16x128 (shapeCast S1x128 w h) h' a = (w (ix4 0 0 0 (a 1)) : BitVec 32) := fun h h' a => by pointwise
  rw [hb]
  have hl : (w (ix4 0 0 0 l) : BitVec 32).getLsbD ((i.val * 16 + q) % 32) =
      (BitVec.setWidth 16 ((w (ix4 0 0 0 l) : BitVec 32) >>> (16 * (i.val % 2)))).getLsbD q := by
    rw [BitVec.getLsbD_setWidth, BitVec.getLsbD_ushiftRight]
    simp only [hq, decide_true, Bool.true_and]
    congr 1
    omega
  exact hl

/-- The value of `oOut`, entry by entry. -/
theorem oOut_apply (v : Vec Ideal (Sdk k) .bf16) (p : Vec Ideal (S1kq k) .bf16) (q : Fin 256) (d : Fin 128) :
    oOut H v p (ix3 0 q d) = ∑ m : Fin k, (v (ix2 d m) : EReal) * (p (ix3 0 m q) : EReal) := by
  pointwise [oOut]
  refine (Idealize.ShloMosaic.Ideal.matmul_plain_apply (M := 128) (K := k) (N := 256) (φ₁ := .bf16) (φ₂ := .bf16) none v (shapeCast (Skq k) p H.sck)
    (constant S128x256 .f32 0#32) d q).trans ?_
  show (constant (F := Ideal) S128x256 .f32 0#32 (ix2 d q) : EReal) + ∑ m : Fin k, (v (ix2 d m) : EReal) *
    (shapeCast (Skq k) p H.sck (ix2 m q) : EReal) = _
  rw [show constant (F := Ideal) S128x256 .f32 0#32 (ix2 d q) = (0 : EReal) from Ideal.ofBits_zero .f32, zero_add]
  refine Finset.sum_congr rfl fun m _ => ?_
  rw [Pointwise.shapeCast_apply, cast23]

end Cert.KernelIdeal
-- ==== Proof.KSpec.lean ====
/- What a column of the kernel's scores becomes, over the extended reals. -/
module

public import proofs.«01_k».proof.Proof.KVal

@[expose] public section

noncomputable section

namespace Cert.KernelIdeal

open Idealize.ShloMosaic Idealize.SL.Sem

/-- The kernel's constant: one over the square root of 128, over the logarithm of two. -/
def kc : EReal := cc (F := Ideal)

/-- Minus the number of powers of two from `2^-126` up to `2^-1` that a number lies below; zero for zero. -/
def eN (x : EReal) : BitVec 32 :=
  if x = 0 then 0#32 else 0#32 - BitVec.ofNat 32 (∑ m : Fin 126, if x < pw (126#32 - BitVec.ofNat 32 m) then 1 else 0)

/-- Half `b` of a word, as a bf16. -/
def hv (w : BitVec 32) (b : Nat) : EReal := Ideal.ofBits .bf16 ((w >>> (16 * b)).setWidth 16)

/-- An exponent as a power of two, twice as the bits of a bf16. -/
def wordE (e : BitVec 32) : BitVec 32 := ((e + 127#32) <<< (23 : Nat)) ||| ((e + 127#32) <<< (7 : Nat))

/-- The maximum of `n` block maxima, times the constant. -/
def colM (n : Nat) (bm : Nat → EReal) : EReal := ((Finset.univ : Finset (Fin n)).sup fun j => bm j) * kc

/-- A score's exponential, the maximum taken off. -/
def colP (s : Nat → EReal) (mc : EReal) (k : Nat) : EReal := Ideal.exp2 (s k * kc - mc)

/-- One over the sum of `n` blocks of exponentials. -/
def colR (n : Nat) (P : Nat → EReal) : EReal :=
  Ideal.div 1 (∑ i : Fin 8, ∑ j ∈ Finset.range n, ∑ g : Fin 4, P (32 * j + (g * 8 + i)))

/-- The exponent of block `j`'s scale. -/
def colE (bm : Nat → EReal) (mc rl : EReal) (j : Nat) : BitVec 32 :=
  eN (Ideal.exp2 (bm j * kc - mc) * rl * Ideal.ofBits .f32 0x37924925#32)

/-- The quantised probability of key `k`. -/
def colPt (n : Nat) (s bm : Nat → EReal) (k : Nat) : EReal :=
  min (colP s (colM n bm) k * (pw (127#32 - colE bm (colM n bm) (colR n (colP s (colM n bm))) (k / 32)) * colR n (colP s (colM n bm)))) 57344
    * hv (wordE (colE bm (colM n bm) (colR n (colP s (colM n bm))) (k / 32))) (k % 2)

/-- Equal arguments give equal values of `colM`. -/
theorem colM_congr {n : Nat} {bm bm' : Nat → EReal} (h : ∀ j < n, bm j = bm' j) : colM n bm = colM n bm' := by
  unfold colM
  rw [Finset.sup_congr rfl fun j _ => h j.val j.isLt]

/-- Equal arguments give equal values of `colR`. -/
theorem colR_congr {n : Nat} {P P' : Nat → EReal} (h : ∀ k < 32 * n, P k = P' k) : colR n P = colR n P' := by
  unfold colR
  refine congrArg _ (Finset.sum_congr rfl fun i _ => Finset.sum_congr rfl fun j hj => Finset.sum_congr rfl fun g _ => h _ ?_)
  have := Finset.mem_range.mp hj
  have := i.isLt
  have := g.isLt
  omega

/-- The quantised probability of a key is told by the scores of the `n` blocks and their maxima. -/
theorem colPt_congr {n : Nat} {s s' bm bm' : Nat → EReal} (hs : ∀ k < 32 * n, s k = s' k) (hb : ∀ j < n, bm j = bm' j)
    {k : Nat} (hk : k < 32 * n) : colPt n s bm k = colPt n s' bm' k := by
  have hP : ∀ m, ∀ k < 32 * n, colP s m k = colP s' m k := fun m k hk => by unfold colP; rw [hs k hk]
  unfold colPt
  rw [colM_congr hb, hP _ k hk, colR_congr (hP _)]
  unfold colE
  rw [hb (k / 32) (by omega)]

end Cert.KernelIdeal
-- ==== Proof.KTri.lean ====
/- What each part of the kernel's body leaves in the buffers. -/
module

public import proofs.«01_k».proof.Proof.KFocus
public import proofs.«01_k».proof.Proof.KSpec

@[expose] public section

noncomputable section

namespace Cert.KernelIdeal

open Idealize.ShloMosaic Idealize.SL.Sem

variable [Facts]
variable {B : Bufs} {c : Dev nD}

/-! ## The tiles of scores -/

/-- The score of query `q` of tile `t`, head `r`, for key `k`; a later key is at `-∞`. -/
def scoreN (x9 : Vec Ideal S3x128x1024 .bf16) (x10 : Vec Ideal S1024x128 .bf16) (t r q k : Nat) : EReal :=
  if k ≤ 256 * t + q then ∑ d : Fin 128, (g2 x10 k d : EReal) * (g3 x9 r d (256 * t + q) : EReal) else ⊥

/-- The maximum over one group of a block's maxima: keys `32 (m / 8) + 8 g + m % 8` for the four `g`. -/
def gmx (s : Nat → EReal) (m : Nat) : EReal := (Finset.univ : Finset (Fin 4)).sup fun g => s (m / 8 * 32 + g * 8 + m % 8)

/-- The first `j` tiles of scores `S` and their maxima are in buffer `w`, and only these two buffers were written since `σ`. -/
def Tiled (σ : Sg Ideal) (w : Nat) (S : Nat → Nat → EReal) (j : Nat) (σ' : Sg Ideal) : Prop :=
  ∃ X Y, σ' = { σ with x12 := X, x13 := Y } ∧ (∀ k q, k < 256 * j → q < 256 → g3 X w k q = S q k) ∧
    ∀ h m l, h < 2 → m < 64 * j → l < 128 → g4 Y w h m l = gmx (S (128 * h + l)) m

/-- One tile more. -/
theorem tile_tri {σ σ' : Sg Ideal} {w j : Nat} {hw : w < 2} {hj : j < 4} {S : Nat → Nat → EReal} {s : FVec Ideal S256x256 .f32}
    (hσ : Tiled σ w S j σ') (hs : ∀ i q : Fin 256, s (ix2 i q) = S q (256 * j + i)) :
    Tri B c σ' (tile B w j hw hj s) (fun _ => Tiled σ w S (j + 1)) := by
  obtain ⟨X, Y, rfl, hX, hY⟩ := hσ
  unfold tile
  refine Tri.bind (Tri.put3 (foc12 B c) (Q := fun _ σ' => ∃ X, σ' = { σ with x12 := X, x13 := Y } ∧
    ∀ k q, k < 256 * (j + 1) → q < 256 → g3 X w k q = S q k) ?_) ?_
  · intro Z h1 h2
    refine ⟨Z, rfl, fun k q hk hq => ?_⟩
    by_cases hkj : k < 256 * j
    · rw [h2 w k q hw (by omega) (by omega) (by omega)]; exact hX k q hkj hq
    · have h := h1 0 ⟨k - 256 * j, by omega⟩ ⟨q, hq⟩
      rw [scOut_apply, hs] at h
      have e1 : 256 * j + (k - 256 * j) = k := by omega
      simpa [e1] using h
  rintro _ _ ⟨Z, rfl, hZ⟩
  refine Tri.bind (Tri.put4 (foc13 B c) (Q := fun _ σ' => ∃ Y, σ' = { σ with x12 := Z, x13 := Y } ∧
    (∀ h m l, h < 2 → m < 64 * j → l < 128 → g4 Y w h m l = gmx (S (128 * h + l)) m) ∧
    ∀ m l, m < 64 * (j + 1) → l < 128 → g4 Y w 0 m l = gmx (S l) m) ?_) ?_
  · intro U h1 h2
    refine ⟨U, rfl, fun h m l hh hm hl => ?_, fun m l hm hl => ?_⟩
    · rw [h2 w h m l hw hh (by omega) hl (by omega)]; exact hY h m l hh hm hl
    · by_cases hmj : m < 64 * j
      · rw [h2 w 0 m l hw (by omega) (by omega) hl (by omega)]; simpa using hY 0 m l (by omega) hmj hl
      · have h := h1 0 0 ⟨m - 64 * j, by omega⟩ ⟨l, hl⟩
        rw [pm0_apply] at h
        have e1 : 64 * j + (m - 64 * j) = m := by omega
        simp only [Fin.val_zero, Nat.add_zero, Nat.zero_add, e1] at h
        rw [h]
        refine Finset.sup_congr rfl fun g _ => ?_
        rw [hs]
        have hg := g.isLt
        exact congrArg (S l) (by show 256 * j + ((m - 64 * j) / 8 * 32 + g.val * 8 + (m - 64 * j) % 8) = _; omega)
  rintro _ _ ⟨U, rfl, hU, hU0⟩
  refine Tri.put4 (foc13 B c) ?_
  intro V h1 h2
  refine ⟨Z, V, rfl, hZ, fun h m l hh hm hl => ?_⟩
  by_cases hmj : m < 64 * j
  · rw [h2 w h m l hw hh (by omega) hl (by omega)]; exact hU h m l hh hmj hl
  · by_cases h0 : h = 0
    · subst h0
      rw [h2 w 0 m l hw (by omega) (by omega) hl (by omega)]; simpa using hU0 m l hm hl
    · obtain rfl : h = 1 := by omega
      have h := h1 0 0 ⟨m - 64 * j, by omega⟩ ⟨l, hl⟩
      rw [pm1_apply] at h
      have e1 : 64 * j + (m - 64 * j) = m := by omega
      simp only [Fin.val_zero, Nat.add_zero, Nat.zero_add, e1] at h
      rw [h]
      refine Finset.sup_congr rfl fun g _ => ?_
      rw [hs]
      have hg := g.isLt
      exact congrArg (S (128 + l)) (by show 256 * j + ((m - 64 * j) / 8 * 32 + g.val * 8 + (m - 64 * j) % 8) = _; omega)

/-- All the tiles of a query tile. -/
theorem tiles_tri {σ : Sg Ideal} {t r w : Nat} {ht : t < 4} {hr : r < 3} {hw : w < 2} :
    Tri B c σ (tiles B t r w ht hr hw) (fun _ => Tiled σ w (scoreN σ.x9 σ.x10 t r) (t + 1)) := by
  unfold tiles
  refine Tri.bind (Tri.load3 (foc9 B c) (Q := fun v σ' => σ = σ' ∧ ∀ (d : Fin 128) (q : Fin 256),
    v (ix3 0 d q) = g3 σ.x9 r d (256 * t + q)) fun v hv => ⟨rfl, fun d q => by simpa using hv 0 d q⟩) ?_
  rintro v _ ⟨rfl, hv⟩
  refine Tri.bind (Tri.loop (fun j _ σ' => Tiled σ w (scoreN σ.x9 σ.x10 t r) j σ') t _ ⟨σ.x12, σ.x13, rfl, by omega, by omega⟩ ?_) ?_
  · intro j hj _ σ' hσ
    obtain ⟨X, Y, rfl, hX, hY⟩ := hσ
    unfold ldK
    refine Tri.bind (Tri.load2 (foc10 B c) (Q := fun k σ' => σ' = { σ with x12 := X, x13 := Y } ∧
      ∀ (i : Fin 256) (d : Fin 128), k (ix2 i d) = g2 σ.x10 (256 * j + i) d) fun v hv => ⟨rfl, fun i d => by simpa using hv i d⟩) ?_
    rintro k _ ⟨rfl, hk⟩
    refine tile_tri ⟨X, Y, rfl, hX, hY⟩ fun i q => ?_
    unfold scoreN
    have hi := i.isLt
    rw [sc0_apply, if_pos (by omega)]
    exact Finset.sum_congr rfl fun d _ => by rw [hk, hv]
  · rintro _ _ ⟨X, Y, rfl, hX, hY⟩
    unfold ldK
    refine Tri.bind (Tri.load2 (foc10 B c) (Q := fun k σ' => σ' = { σ with x12 := X, x13 := Y } ∧
      ∀ (i : Fin 256) (d : Fin 128), k (ix2 i d) = g2 σ.x10 (256 * t + i) d) fun v hv => ⟨rfl, fun i d => by simpa using hv i d⟩) ?_
    rintro k _ ⟨rfl, hk⟩
    refine tile_tri ⟨X, Y, rfl, hX, hY⟩ fun i q => ?_
    unfold scoreN
    rw [sc1_apply, sc0_apply]
    by_cases hiq : i.val ≤ q.val
    · rw [if_pos hiq, if_pos (by omega)]
      exact Finset.sum_congr rfl fun d _ => by rw [hk, hv]
    · rw [if_neg hiq, if_neg (by omega)]

/-! ## The softmax pass -/

/-- The maxima of the blocks. -/
theorem bmP_tri {σ : Sg Ideal} {n k : Nat} {H : NF n k} {w h : Nat} {hw : w < 2} {hh : h < 2} {hn : n ≤ 32} :
    Tri B c σ (bmP B H w h hw hh hn) (fun b σ' => σ = σ' ∧ ∀ (j : Fin n) (l : Fin 128),
      b (ix2 j l) = (Finset.range 8).sup fun i => (g4 σ.x13 w h (i + 8 * j) l : EReal)) := by
  unfold bmP
  refine Tri.bind (Tri.loadB (foc13 B c) (Q := fun v σ' => σ = σ' ∧ ∀ (j : Fin n) (l : Fin 128),
    v (ix4 0 0 j l) = g4 σ.x13 w h (0 + 8 * j) l) fun v hv => ⟨rfl, hv⟩) ?_
  rintro v _ ⟨rfl, hv⟩
  refine Tri.loop (fun m (b : FVec Ideal (Sn n) .f32) σ' => σ = σ' ∧ ∀ (j : Fin n) (l : Fin 128),
      b (ix2 j l) = (Finset.range (m + 1)).sup fun i => (g4 σ.x13 w h (i + 8 * j) l : EReal)) 7 _ ⟨rfl, fun j l => ?_⟩ ?_
  · refine Eq.trans ?_ (hv j l) |>.trans ?_
    · exact congrArg v (cast42 _ j l)
    · simp
  · rintro i hi b _ ⟨rfl, hb⟩
    refine Tri.bind (Tri.loadB (foc13 B c) (Q := fun v σ' => σ = σ' ∧ ∀ (j : Fin n) (l : Fin 128),
      v (ix4 0 0 j l) = g4 σ.x13 w h (i + 1 + 8 * j) l) fun v hv => ⟨rfl, hv⟩) ?_
    rintro v' _ ⟨rfl, hv'⟩
    refine Tri.ret ⟨rfl, fun j l => ?_⟩
    rw [bmStep_apply, hb, hv', Finset.range_add_one (n := i + 1), Finset.sup_insert, sup_comm]

/-- The exponentials of the scores in half `h` of the lanes, and their sums. -/
theorem accP_tri {σ : Sg Ideal} {n w h : Nat} {hw : w < 2} {hh : h < 2} {hn : n ≤ 32} {mc : FVec Ideal S1x128 .f32} :
    Tri B c σ (accP B n w h hw hh hn mc) (fun acc σ' => ∃ X, σ' = { σ with x12 := X } ∧
      (∀ k l, k < 32 * n → l < 128 → g3 X w k (128 * h + l) = colP (fun k => g3 σ.x12 w k (128 * h + l)) (g2 mc 0 l) k) ∧
      (∀ k q, k < 1024 → q < 256 → (32 * n ≤ k ∨ q < 128 * h ∨ 128 * h + 128 ≤ q) → g3 X w k q = g3 σ.x12 w k q) ∧
      ∀ (i : Fin 8) (l : Fin 128), acc (ix2 i l) = ∑ j ∈ Finset.range n, ∑ g : Fin 4,
        colP (fun k => g3 σ.x12 w k (128 * h + l)) (g2 mc 0 l) (32 * j + (g * 8 + i))) := by
  unfold accP
  refine Tri.loop (fun n (acc : FVec Ideal S8x128 .f32) σ' => ∃ X, σ' = { σ with x12 := X } ∧
      (∀ k l, k < 32 * n → l < 128 → g3 X w k (128 * h + l) = colP (fun k => g3 σ.x12 w k (128 * h + l)) (g2 mc 0 l) k) ∧
      (∀ k q, k < 1024 → q < 256 → (32 * n ≤ k ∨ q < 128 * h ∨ 128 * h + 128 ≤ q) → g3 X w k q = g3 σ.x12 w k q) ∧
      ∀ (i : Fin 8) (l : Fin 128), acc (ix2 i l) = ∑ j ∈ Finset.range n, ∑ g : Fin 4,
        colP (fun k => g3 σ.x12 w k (128 * h + l)) (g2 mc 0 l) (32 * j + (g * 8 + i))) n _
    ⟨σ.x12, rfl, by omega, fun _ _ _ _ _ => rfl, fun i l => by rw [acc0_apply]; simp⟩ ?_
  rintro j hj acc _ ⟨X, rfl, hX, hX', ha⟩
  refine Tri.bind (Tri.load3 (foc12 B c) (Q := fun v σ' => σ' = { σ with x12 := X } ∧ ∀ (i : Fin 32) (l : Fin 128),
    v (ix3 0 i l) = g3 σ.x12 w (32 * j + i) (128 * h + l)) fun v hv => ⟨rfl, fun i l => ?_⟩) ?_
  · have hi := i.isLt
    have hl := l.isLt
    rw [← hX' _ _ (by omega) (by omega) (by omega)]
    simpa using hv 0 i l
  rintro v _ ⟨rfl, hv⟩
  have hp : ∀ (i : Fin 32) (l : Fin 128), pv mc v (ix2 i l) = colP (fun k => g3 σ.x12 w k (128 * h + l)) (g2 mc 0 l) (32 * j + i) := by
    intro i l
    rw [pv_apply, hv, g2_ix mc 0 l]
    rfl
  refine Tri.bind (Tri.put3 (foc12 B c) (Q := fun _ σ' => ∃ X, σ' = { σ with x12 := X } ∧
      (∀ k l, k < 32 * (j + 1) → l < 128 → g3 X w k (128 * h + l) = colP (fun k => g3 σ.x12 w k (128 * h + l)) (g2 mc 0 l) k) ∧
      (∀ k q, k < 1024 → q < 256 → (32 * (j + 1) ≤ k ∨ q < 128 * h ∨ 128 * h + 128 ≤ q) → g3 X w k q = g3 σ.x12 w k q)) ?_) ?_
  · intro Z h1 h2
    refine ⟨Z, rfl, fun k l hk hl => ?_, fun k q hk hq ho => ?_⟩
    · by_cases hkj : k < 32 * j
      · rw [h2 w k (128 * h + l) hw (by omega) (by omega) (by omega)]; exact hX k l hkj hl
      · have h3 := h1 0 ⟨k - 32 * j, by omega⟩ ⟨l, hl⟩
        rw [pOut_apply, hp] at h3
        have e1 : 32 * j + (k - 32 * j) = k := by omega
        simpa [e1] using h3
    · rw [h2 w k q hw hk hq (by omega)]
      exact hX' k q hk hq (by omega)
  rintro _ _ ⟨Z, rfl, hZ, hZ'⟩
  refine Tri.ret ⟨Z, rfl, hZ, hZ', fun i l => ?_⟩
  rw [accStep_apply, ha, Finset.sum_range_succ]
  exact congrArg _ (Finset.sum_congr rfl fun g _ => hp _ l)

/-- The maxima of the blocks of a column. -/
def bmN (x13 : Vec Ideal S2x2x256x128 .f32) (w h l j : Nat) : EReal := (Finset.range 8).sup fun i => (g4 x13 w h (i + 8 * j) l : EReal)

/-- The softmax pass: exponentials, each block's factor and scale. -/
theorem passP_tri {σ : Sg Ideal} {n k : Nat} {H : NF n k} {w h : Nat} {hw : w < 2} {hh : h < 2} {hn : n ≤ 32} :
    Tri B c σ (passP B H w h hw hh hn) (fun _ σ' => ∃ X Y Z, σ' = { σ with x12 := X, x14 := Y, x15 := Z } ∧
      (∀ k l, k < 32 * n → l < 128 → g3 X w k (128 * h + l) =
        colP (fun k => g3 σ.x12 w k (128 * h + l)) (colM n (bmN σ.x13 w h l)) k) ∧
      (∀ k q, k < 1024 → q < 256 → (q < 128 * h ∨ 128 * h + 128 ≤ q) → g3 X w k q = g3 σ.x12 w k q) ∧
      ∀ j l, j < n → l < 128 →
        g4 Y w h j l = pw (127#32 - colE (bmN σ.x13 w h l) (colM n (bmN σ.x13 w h l))
          (colR n (colP (fun k => g3 σ.x12 w k (128 * h + l)) (colM n (bmN σ.x13 w h l)))) j)
            * colR n (colP (fun k => g3 σ.x12 w k (128 * h + l)) (colM n (bmN σ.x13 w h l))) ∧
        g4 Z w h j l = wordE (colE (bmN σ.x13 w h l) (colM n (bmN σ.x13 w h l))
          (colR n (colP (fun k => g3 σ.x12 w k (128 * h + l)) (colM n (bmN σ.x13 w h l)))) j)) := by
  unfold passP
  refine Tri.bind bmP_tri ?_
  rintro b _ ⟨rfl, hb⟩
  have hmc : ∀ l : Fin 128, mcOf H b (ix2 0 l) = colM n (bmN σ.x13 w h l) := by
    intro l
    rw [mcOf_apply]
    unfold colM bmN
    rw [Finset.sup_congr rfl fun j _ => hb j l]
    rfl
  refine Tri.bind accP_tri ?_
  rintro acc _ ⟨X, rfl, hX, hX', ha⟩
  have hm2 : ∀ l, l < 128 → g2 (mcOf H b) 0 l = colM n (bmN σ.x13 w h l) := by
    intro l hl
    exact (g2_ix (p := 1) (q := 128) (mcOf H b) 0 ⟨l, hl⟩).symm.trans (hmc ⟨l, hl⟩)
  have hrl : ∀ l : Fin 128, rlOf acc (ix2 0 l) = colR n (colP (fun k => g3 σ.x12 w k (128 * h + l)) (colM n (bmN σ.x13 w h l))) := by
    intro l
    rw [rlOf_apply]
    unfold colR
    refine congrArg _ (Finset.sum_congr rfl fun i _ => ?_)
    rw [ha, hm2 l l.isLt]
  have he : ∀ (j : Fin n) (l : Fin 128), eOf H (xOf H b (mcOf H b) (rlOf acc)) (ix2 j l) = colE (bmN σ.x13 w h l) (colM n (bmN σ.x13 w h l))
          (colR n (colP (fun k => g3 σ.x12 w k (128 * h + l)) (colM n (bmN σ.x13 w h l)))) j := by
    intro j l
    rw [eOf_apply, cntOf_apply, xOf_apply, hmc, hrl, hb]
    rfl
  refine Tri.bind (Tri.put4 (foc14 B c) (Q := fun _ σ' => ∃ Y, σ' = { σ with x12 := X, x14 := Y } ∧ ∀ j l, j < n → l < 128 →
        g4 Y w h j l = pw (127#32 - colE (bmN σ.x13 w h l) (colM n (bmN σ.x13 w h l))
          (colR n (colP (fun k => g3 σ.x12 w k (128 * h + l)) (colM n (bmN σ.x13 w h l)))) j)
            * colR n (colP (fun k => g3 σ.x12 w k (128 * h + l)) (colM n (bmN σ.x13 w h l)))) fun Y h1 h2 => ⟨Y, rfl, fun j l hj hl => ?_⟩) ?_
  · have h3 := h1 0 0 ⟨j, hj⟩ ⟨l, hl⟩
    rw [fOut_apply, he, hrl] at h3
    simp only [Fin.val_zero, Nat.add_zero, Nat.zero_add] at h3
    exact h3
  rintro _ _ ⟨Y, rfl, hY⟩
  refine Tri.put4 (foc15 B c) fun Z h1 h2 => ⟨X, Y, Z, rfl, fun k l hk hl => ?_, fun k q hk hq ho => hX' k q hk hq (Or.inr ho), fun j l hj hl => ⟨hY j l hj hl, ?_⟩⟩
  · rw [hX k l hk hl, hm2 l hl]
  · have h3 := h1 0 0 ⟨j, hj⟩ ⟨l, hl⟩
    rw [scaleOut_apply, he] at h3
    simp only [Fin.val_zero, Nat.add_zero, Nat.zero_add] at h3
    exact h3

/-- The quantising pass. -/
theorem passQ_tri {σ : Sg Ideal} {n w h : Nat} {hw : w < 2} {hh : h < 2} {hn : n ≤ 32} :
    Tri B c σ (passQ B n w h hw hh hn) (fun _ σ' => ∃ X, σ' = { σ with x16 := X } ∧
      (∀ k l, k < 32 * n → l < 128 → g3 X w k (128 * h + l) =
        min ((g3 σ.x12 w k (128 * h + l) : EReal) * (g4 σ.x14 w h (k / 32) l : EReal)) 57344 * hv (g4 σ.x15 w h (k / 32) l) (k % 2)) ∧
      (∀ k q, k < 1024 → q < 256 → (q < 128 * h ∨ 128 * h + 128 ≤ q) → g3 X w k q = g3 σ.x16 w k q)) := by
  unfold passQ
  refine Tri.loop (fun n _ σ' => ∃ X, σ' = { σ with x16 := X } ∧
      (∀ k l, k < 32 * n → l < 128 → g3 X w k (128 * h + l) =
        min ((g3 σ.x12 w k (128 * h + l) : EReal) * (g4 σ.x14 w h (k / 32) l : EReal)) 57344 * hv (g4 σ.x15 w h (k / 32) l) (k % 2)) ∧
      (∀ k q, k < 1024 → q < 256 → (q < 128 * h ∨ 128 * h + 128 ≤ q) → g3 X w k q = g3 σ.x16 w k q)) n _
    ⟨σ.x16, rfl, by omega, fun _ _ _ _ _ => rfl⟩ ?_
  rintro j hj _ _ ⟨X, rfl, hX, hX'⟩
  refine Tri.bind (Tri.load4 (foc14 B c) (Q := fun f σ' => σ' = { σ with x16 := X } ∧ ∀ l : Fin 128,
    f (ix4 0 0 0 l) = g4 σ.x14 w h j l) fun v hv => ⟨rfl, fun l => by simpa using hv 0 0 0 l⟩) ?_
  rintro f _ ⟨rfl, hf⟩
  refine Tri.bind (Tri.load3 (foc12 B c) (Q := fun p σ' => σ' = { σ with x16 := X } ∧ ∀ (i : Fin 32) (l : Fin 128),
    p (ix3 0 i l) = g3 σ.x12 w (32 * j + i) (128 * h + l)) fun v hv => ⟨rfl, fun i l => by simpa using hv 0 i l⟩) ?_
  rintro p _ ⟨rfl, hp⟩
  refine Tri.bind (Tri.load4 (foc15 B c) (Q := fun s σ' => σ' = { σ with x16 := X } ∧ ∀ l : Fin 128,
    s (ix4 0 0 0 l) = g4 σ.x15 w h j l) fun v hv => ⟨rfl, fun l => by simpa using hv 0 0 0 l⟩) ?_
  rintro s _ ⟨rfl, hs⟩
  refine Tri.put3 (foc16 B c) fun Z h1 h2 => ⟨Z, rfl, fun k l hk hl => ?_, fun k q hk hq ho => ?_⟩
  · by_cases hkj : k < 32 * j
    · rw [h2 w k (128 * h + l) hw (by omega) (by omega) (by omega)]; exact hX k l hkj hl
    · have h3 := h1 0 ⟨k - 32 * j, by omega⟩ ⟨l, hl⟩
      rw [ptOut_apply, hf, hp, hs] at h3
      have e1 : 32 * j + (k - 32 * j) = k := by omega
      have e2 : (k - 32 * j) % 2 = k % 2 := by omega
      have e3 : k / 32 = j := by omega
      simp only [Fin.val_zero, Nat.add_zero, e1, e2] at h3
      rw [h3, e3]
      rfl
  · rw [h2 w k q hw hk hq (by omega)]
    exact hX' k q hk hq ho

end Cert.KernelIdeal
-- ==== Proof.KTri2.lean ====
/- What the kernel's body leaves in its result. -/
module

public import proofs.«01_k».proof.Proof.KTri

@[expose] public section

noncomputable section

namespace Cert.KernelIdeal

open Idealize.ShloMosaic Idealize.SL.Sem

variable [Facts]
variable {B : Bufs} {c : Dev nD}

/-- Half of the lanes of a query tile: the scores become quantised probabilities. -/
theorem half_tri {σ : Sg Ideal} {t w h : Nat} {ht : t < 4} {hw : w < 2} {hh : h < 2} :
    Tri B c σ (half B t w h ht hw hh) (fun _ σ' => ∃ X Y Z U, σ' = { σ with x12 := X, x14 := Y, x15 := Z, x16 := U } ∧
      (∀ k l, k < 256 * (t + 1) → l < 128 → g3 U w k (128 * h + l) =
        colPt (8 * (t + 1)) (fun k => g3 σ.x12 w k (128 * h + l)) (bmN σ.x13 w h l) k) ∧
      (∀ k q, k < 1024 → q < 256 → (q < 128 * h ∨ 128 * h + 128 ≤ q) → g3 X w k q = g3 σ.x12 w k q) ∧
      (∀ k q, k < 1024 → q < 256 → (q < 128 * h ∨ 128 * h + 128 ≤ q) → g3 U w k q = g3 σ.x16 w k q)) := by
  unfold half
  refine Tri.bind passP_tri ?_
  rintro _ _ ⟨X, Y, Z, rfl, hX, hX', hYZ⟩
  refine Tri.mono passQ_tri ?_
  rintro _ _ ⟨U, rfl, hU, hU'⟩
  refine ⟨X, Y, Z, U, rfl, fun k l hk hl => ?_, hX', hU'⟩
  rw [hU k l (by omega) hl]
  have h1 := hYZ (k / 32) l (by omega) hl
  unfold colPt
  rw [← hX k l (by omega) hl, ← h1.1, ← h1.2]

/-- The output of a query tile. -/
theorem outP_tri {σ : Sg Ideal} {n k : Nat} {H : NF n k} {t r w : Nat} {ht : t < 4} {hr : r < 3} {hw : w < 2} :
    Tri B c σ (outP B H t r w ht hr hw) (fun _ σ' => ∃ X, σ' = { σ with x8 := X } ∧
      (∀ q d, q < 256 → d < 128 → g3 X 0 (256 * t + q) (128 * r + d) = ∑ m : Fin k, (g2 σ.x11 d m : EReal) * (g3 σ.x16 w m q : EReal)) ∧
      (∀ i d, i < 1024 → d < 384 → (i < 256 * t ∨ 256 * t + 256 ≤ i ∨ d < 128 * r ∨ 128 * r + 128 ≤ d) → g3 X 0 i d = g3 σ.x8 0 i d)) := by
  unfold outP
  refine Tri.bind (Tri.load2 (foc11 B c) (Q := fun v σ' => σ = σ' ∧ ∀ (d : Fin 128) (m : Fin k), v (ix2 d m) = g2 σ.x11 d m)
    fun v hv => ⟨rfl, fun d m => by simpa using hv d m⟩) ?_
  rintro v _ ⟨rfl, hv⟩
  refine Tri.bind (Tri.load3 (foc16 B c) (Q := fun v σ' => σ = σ' ∧ ∀ (m : Fin k) (q : Fin 256), v (ix3 0 m q) = g3 σ.x16 w m q)
    fun v hv => ⟨rfl, fun d m => by simpa using hv 0 d m⟩) ?_
  rintro p _ ⟨rfl, hp⟩
  refine Tri.put3 (foc8 B c) fun X h1 h2 => ⟨X, rfl, fun q d hq hd => ?_, fun i d hi hd ho => ?_⟩
  · have h3 := h1 0 ⟨q, hq⟩ ⟨d, hd⟩
    rw [oOut_apply] at h3
    simp only [Fin.val_zero, Nat.add_zero, Nat.zero_add] at h3
    rw [h3]
    exact Finset.sum_congr rfl fun m _ => by rw [hv, hp]
  · exact h2 0 i d (by omega) hi hd (by omega)

/-- A block's maximum, taken in eight groups of four keys. -/
def bmS (s : Nat → EReal) (j : Nat) : EReal := (Finset.range 8).sup fun i => gmx s (i + 8 * j)

/-- The result for query `q` of tile `t`, head `r`, dimension `d`. -/
def outN (x9 : Vec Ideal S3x128x1024 .bf16) (x10 : Vec Ideal S1024x128 .bf16) (x11 : Vec Ideal S128x1024 .bf16) (t r q d : Nat) : EReal :=
  ∑ m : Fin (256 * (t + 1)), (g2 x11 d m : EReal) * colPt (8 * (t + 1)) (scoreN x9 x10 t r q) (bmS (scoreN x9 x10 t r q)) m

/-- One query tile of one head. -/
theorem unit_tri {σ : Sg Ideal} {t r w : Nat} {ht : t < 4} {hr : r < 3} {hw : w < 2} :
    Tri B c σ (unit B t r w ht hr hw) (fun _ σ' => ∃ X8 X12 X13 X14 X15 X16,
      σ' = { σ with x8 := X8, x12 := X12, x13 := X13, x14 := X14, x15 := X15, x16 := X16 } ∧
      (∀ q d, q < 256 → d < 128 → g3 X8 0 (256 * t + q) (128 * r + d) = outN σ.x9 σ.x10 σ.x11 t r q d) ∧
      (∀ i d, i < 1024 → d < 384 → (i < 256 * t ∨ 256 * t + 256 ≤ i ∨ d < 128 * r ∨ 128 * r + 128 ≤ d) → g3 X8 0 i d = g3 σ.x8 0 i d)) := by
  unfold unit
  refine Tri.bind tiles_tri ?_
  rintro _ _ ⟨X, Y, rfl, hX, hY⟩
  have hpt : ∀ h l, h < 2 → l < 128 → ∀ k < 256 * (t + 1), ∀ s : Nat → EReal,
      (∀ k < 256 * (t + 1), s k = g3 X w k (128 * h + l)) →
      colPt (8 * (t + 1)) s (bmN Y w h l) k =
        colPt (8 * (t + 1)) (scoreN σ.x9 σ.x10 t r (128 * h + l)) (bmS (scoreN σ.x9 σ.x10 t r (128 * h + l))) k := by
    intro h l hh hl k hk s hs
    refine colPt_congr (fun k hk => ?_) (fun j hj => ?_) (by omega)
    · rw [hs k (by omega), hX k _ (by omega) (by omega)]
    · unfold bmN bmS
      refine Finset.sup_congr rfl fun i hi => ?_
      have := Finset.mem_range.mp hi
      exact hY h (i + 8 * j) l hh (by omega) hl
  refine Tri.bind half_tri ?_
  rintro _ _ ⟨X1, Y1, Z1, U1, rfl, hU1, hX1, -⟩
  refine Tri.bind half_tri ?_
  rintro _ _ ⟨X2, Y2, Z2, U2, rfl, hU2, -, hU2'⟩
  refine Tri.mono outP_tri ?_
  rintro _ _ ⟨X8, rfl, h8, h8'⟩
  refine ⟨X8, X2, Y, Y2, Z2, U2, rfl, fun q d hq hd => ?_, h8'⟩
  rw [h8 q d hq hd]
  unfold outN
  refine Finset.sum_congr rfl fun m _ => congrArg _ ?_
  have hm := m.isLt
  by_cases hq1 : q < 128
  · have h1 := hU1 m q hm hq1
    rw [hpt 0 q (by omega) hq1 m hm _ fun _ _ => rfl] at h1
    simp only [Nat.mul_zero, Nat.zero_add] at h1
    rw [← h1]
    exact hU2' m q (by omega) hq (by omega)
  · have h1 := hU2 m (q - 128) hm (by omega)
    rw [hpt 1 (q - 128) (by omega) (by omega) m hm _ fun k hk => hX1 k _ (by omega) (by omega) (by omega)] at h1
    have e1 : 128 * 1 + (q - 128) = q := by omega
    rw [e1] at h1
    exact h1

/-! ## The prologue -/

/-- The queries as the kernel keeps them. -/
def q9 (x2 : Vec Ideal S1x3x1024x128 .fp8e4m3) (x3 : Vec Ideal S1x3x4x1024 .i8) : Vec Ideal S3x128x1024 .bf16 := fun i =>
  (g4 x2 0 (i 0).val (i 2).val (i 1).val : EReal) * pw ((g4 x3 0 (i 0).val ((i 1).val / 32) (i 2).val : BitVec 8).zeroExtend 32)

/-- The keys as the kernel keeps them. -/
def k10 (x4 : Vec Ideal S1x1x1024x128 .fp8e4m3) (x5 : Vec Ideal S1x1x4x1024 .i8) : Vec Ideal S1024x128 .bf16 := fun i =>
  (g4 x4 0 0 (i 0).val (i 1).val : EReal) * pw ((g4 x5 0 0 ((i 1).val / 32) (i 0).val : BitVec 8).zeroExtend 32)

/-- The values as the kernel keeps them. -/
def v11 (x6 : Vec Ideal S1x1x1024x128 .fp8e4m3) (x7 : Vec Ideal S1x1x32x128 .i8) : Vec Ideal S128x1024 .bf16 := fun i =>
  (g4 x6 0 0 (i 1).val (i 0).val : EReal) * pw ((g4 x7 0 0 ((i 1).val / 32) (i 0).val : BitVec 8).zeroExtend 32)

/-- One head's queries. -/
theorem qP_tri {σ : Sg Ideal} {r : Nat} {hr : r < 3} :
    Tri B c σ (qP B r hr) (fun _ σ' => ∃ X, σ' = { σ with x9 := X } ∧
      (∀ d p, d < 128 → p < 1024 → g3 X r d p =
        (g4 σ.x2 0 r p d : EReal) * pw ((g4 σ.x3 0 r (d / 32) p : BitVec 8).zeroExtend 32)) ∧
      (∀ r' d p, r' < 3 → d < 128 → p < 1024 → r' < r → g3 X r' d p = g3 σ.x9 r' d p)) := by
  unfold qP
  refine Tri.bind (Tri.load4 (foc2 B c) (Q := fun v σ' => σ = σ' ∧ ∀ (p : Fin 1024) (d : Fin 128), v (ix4 0 0 p d) = g4 σ.x2 0 r p d)
    fun v hv => ⟨rfl, fun p d => by simpa using hv 0 0 p d⟩) ?_
  rintro v _ ⟨rfl, hv⟩
  refine Tri.bind (Tri.load4 (foc3 B c) (Q := fun v σ' => σ = σ' ∧ ∀ (p : Fin 4) (d : Fin 1024), v (ix4 0 0 p d) = g4 σ.x3 0 r p d)
    fun v hv => ⟨rfl, fun p d => by simpa using hv 0 0 p d⟩) ?_
  rintro s _ ⟨rfl, hs⟩
  refine Tri.put3 (foc9 B c) fun X h1 h2 => ⟨X, rfl, fun d p hd hp => ?_, fun r' d p hr' hd hp ho => h2 r' d p hr' hd hp (by omega)⟩
  have h3 := h1 0 ⟨d, hd⟩ ⟨p, hp⟩
  rw [qtOf_apply, hv, hs] at h3
  simp only [Fin.val_zero, Nat.add_zero, Nat.zero_add] at h3
  exact h3

/-- The prologue. -/
theorem proP_tri {σ : Sg Ideal} :
    Tri B c σ (proP B) (fun _ σ' => σ' = { σ with x9 := q9 σ.x2 σ.x3, x10 := k10 σ.x4 σ.x5, x11 := v11 σ.x6 σ.x7 }) := by
  unfold proP
  refine Tri.bind (Tri.load4 (foc4 B c) (Q := fun v σ' => σ = σ' ∧ ∀ (p : Fin 1024) (d : Fin 128), v (ix4 0 0 p d) = g4 σ.x4 0 0 p d)
    fun v hv => ⟨rfl, fun p d => by simpa using hv 0 0 p d⟩) ?_
  rintro v _ ⟨rfl, hv⟩
  refine Tri.bind (Tri.load4 (foc5 B c) (Q := fun v σ' => σ = σ' ∧ ∀ (p : Fin 4) (d : Fin 1024), v (ix4 0 0 p d) = g4 σ.x5 0 0 p d)
    fun v hv => ⟨rfl, fun p d => by simpa using hv 0 0 p d⟩) ?_
  rintro s _ ⟨rfl, hs⟩
  refine Tri.bind (Tri.put2 (foc10 B c) (Q := fun _ σ' => σ' = { σ with x10 := k10 σ.x4 σ.x5 }) fun X h1 _ => ?_) ?_
  · have key : ∀ (a : Fin 1024) (b : Fin 128), g2 X a b = k10 σ.x4 σ.x5 (ix2 a b) := by
      intro a b
      have h3 := (h1 a b).trans (kbOf_apply v s a b)
      rw [hv, hs] at h3
      simp only [Nat.zero_add] at h3
      exact h3
    have : X = k10 σ.x4 σ.x5 := funext fun i => by
      rw [eq_ix2 i]
      exact (g2_ix X (i 0) (i 1)).trans (key (i 0) (i 1))
    rw [this]
  rintro _ _ rfl
  refine Tri.bind (Tri.load4 (foc7 B c) (Q := fun v σ' => σ' = { σ with x10 := k10 σ.x4 σ.x5 } ∧ ∀ (p : Fin 32) (d : Fin 128), v (ix4 0 0 p d) = g4 σ.x7 0 0 p d)
    fun v hv => ⟨rfl, fun p d => by simpa using hv 0 0 p d⟩) ?_
  rintro s' _ ⟨rfl, hs'⟩
  refine Tri.bind (Tri.load4 (foc6 B c) (Q := fun v σ' => σ' = { σ with x10 := k10 σ.x4 σ.x5 } ∧ ∀ (p : Fin 1024) (d : Fin 128), v (ix4 0 0 p d) = g4 σ.x6 0 0 p d)
    fun v hv => ⟨rfl, fun p d => by simpa using hv 0 0 p d⟩) ?_
  rintro v' _ ⟨rfl, hv'⟩
  refine Tri.bind (Tri.put2 (foc11 B c) (Q := fun _ σ' => σ' = { σ with x10 := k10 σ.x4 σ.x5, x11 := v11 σ.x6 σ.x7 }) fun X h1 _ => ?_) ?_
  · have key : ∀ (a : Fin 128) (b : Fin 1024), g2 X a b = v11 σ.x6 σ.x7 (ix2 a b) := by
      intro a b
      have h3 := (h1 a b).trans (vtOf_apply s' v' b a)
      rw [hv', hs'] at h3
      simp only [Nat.zero_add] at h3
      exact h3
    have : X = v11 σ.x6 σ.x7 := funext fun i => by
      rw [eq_ix2 i]
      exact (g2_ix X (i 0) (i 1)).trans (key (i 0) (i 1))
    rw [this]
  rintro _ _ rfl
  refine Tri.mono (Tri.loop (fun r _ σ' => ∃ X, σ' = { σ with x9 := X, x10 := k10 σ.x4 σ.x5, x11 := v11 σ.x6 σ.x7 } ∧
    ∀ r' d p, r' < r → d < 128 → p < 1024 → g3 X r' d p =
        (g4 σ.x2 0 r' p d : EReal) * pw ((g4 σ.x3 0 r' (d / 32) p : BitVec 8).zeroExtend 32)) 3 _ ⟨σ.x9, rfl, by omega⟩ ?_) ?_
  · rintro r hr _ _ ⟨X, rfl, hX⟩
    refine Tri.mono qP_tri ?_
    rintro _ _ ⟨Y, rfl, h1, h2⟩
    refine ⟨Y, rfl, fun r' d p hr' hd hp => ?_⟩
    by_cases h : r' = r
    · subst h; exact h1 d p hd hp
    · rw [h2 r' d p (by omega) hd hp (by omega)]; exact hX r' d p (by omega) hd hp
  rintro _ _ ⟨X, rfl, hX⟩
  have : X = q9 σ.x2 σ.x3 := by
    funext i
    have e : X i = g3 X (i 0).val (i 1).val (i 2).val := by
      conv_lhs => rw [eq_ix3 i]
      exact g3_ix X (i 0) (i 1) (i 2)
    exact e.trans (hX _ _ _ (i 0).isLt (i 1).isLt (i 2).isLt)
  rw [this]

/-! ## The body -/

/-- What the body leaves in its result. -/
def out8 (x2 : Vec Ideal S1x3x1024x128 .fp8e4m3) (x3 : Vec Ideal S1x3x4x1024 .i8) (x4 : Vec Ideal S1x1x1024x128 .fp8e4m3)
    (x5 : Vec Ideal S1x1x4x1024 .i8) (x6 : Vec Ideal S1x1x1024x128 .fp8e4m3) (x7 : Vec Ideal S1x1x32x128 .i8) : Vec Ideal S1x1024x384 .bf16 :=
  fun i => outN (q9 x2 x3) (k10 x4 x5) (v11 x6 x7) ((i 1).val / 256) ((i 2).val / 128) ((i 1).val % 256) ((i 2).val % 128)

/-- The units before head `r` of query tile `t` have left their results, and the buffers from the queries to the values are as in `σ`. -/
def Done (σ : Sg Ideal) (t r : Nat) (σ' : Sg Ideal) : Prop :=
  ∃ X8 X12 X13 X14 X15 X16, σ' = { σ with x8 := X8, x12 := X12, x13 := X13, x14 := X14, x15 := X15, x16 := X16 } ∧
    ∀ i d, i < 1024 → d < 384 → (i / 256 < t ∨ i / 256 = t ∧ d / 128 < r) →
      g3 X8 0 i d = outN σ.x9 σ.x10 σ.x11 (i / 256) (d / 128) (i % 256) (d % 128)

/-- The whole body. -/
theorem kprog_tri {σ : Sg Ideal} :
    Tri B c σ (kprog B) (fun _ σ' => σ'.x2 = σ.x2 ∧ σ'.x3 = σ.x3 ∧ σ'.x4 = σ.x4 ∧ σ'.x5 = σ.x5 ∧ σ'.x6 = σ.x6 ∧ σ'.x7 = σ.x7 ∧
      σ'.x8 = out8 σ.x2 σ.x3 σ.x4 σ.x5 σ.x6 σ.x7) := by
  unfold kprog
  refine Tri.bind proP_tri ?_
  rintro _ σ₁ hσ₁
  refine Tri.mono (Tri.loop (fun t _ σ' => Done σ₁ t 0 σ') 4 _
    ⟨σ₁.x8, σ₁.x12, σ₁.x13, σ₁.x14, σ₁.x15, σ₁.x16, rfl, by omega⟩ ?_) ?_
  · intro t ht _ σ' hσ'
    refine Tri.mono (Tri.loop (fun r _ σ' => Done σ₁ t r σ') 3 _ hσ' ?_) ?_
    · rintro r hr _ _ ⟨X8, X12, X13, X14, X15, X16, rfl, h⟩
      refine Tri.mono unit_tri ?_
      rintro _ _ ⟨Y8, Y12, Y13, Y14, Y15, Y16, rfl, h1, h2⟩
      refine ⟨Y8, Y12, Y13, Y14, Y15, Y16, rfl, fun i d hi hd ho => ?_⟩
      by_cases hn : i / 256 = t ∧ d / 128 = r
      · obtain ⟨rfl, rfl⟩ := hn
        have h3 := h1 (i % 256) (d % 128) (by omega) (by omega)
        rw [Nat.div_add_mod, Nat.div_add_mod] at h3
        exact h3
      · rw [h2 i d hi hd (by omega)]
        exact h i d hi hd (by omega)
    · rintro _ _ ⟨X8, X12, X13, X14, X15, X16, rfl, h⟩
      exact ⟨X8, X12, X13, X14, X15, X16, rfl, fun i d hi hd ho => h i d hi hd (by omega)⟩
  · rintro _ _ ⟨X8, X12, X13, X14, X15, X16, rfl, h⟩
    subst hσ₁
    refine ⟨rfl, rfl, rfl, rfl, rfl, rfl, funext fun i => ?_⟩
    have h0 : (i 0).val < 1 := (i 0).isLt
    have h1 : (i 1).val < 1024 := (i 1).isLt
    have h2 : (i 2).val < 384 := (i 2).isLt
    have e : X8 i = g3 X8 0 (i 1).val (i 2).val := by
      conv_lhs => rw [eq_ix3 i]
      refine (g3_ix X8 (i 0) (i 1) (i 2)).trans ?_
      rw [show ((i 0 : Fin 1) : Nat) = 0 by omega]
    exact e.trans (h _ _ h1 h2 (Or.inl (by omega)))

end Cert.KernelIdeal
-- ==== Proof.KRun.lean ====
/- The kernel's run: what every grid point leaves in its block of the result, and with it the whole result. -/
module

public import proofs.«01_k».proof.Proof.KAll
public import proofs.«01_k».proof.Proof.KTri2
public import proofs.«01_k».proof.Proof.Gen.KernelIdeal.Frame.Runs
public import Idealize.ShloMosaic.Lib.Claim

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

local notation "𝕄" => MT nD τ sig Unit (Elt Ideal) ℕ (UR sig nD τ) ℕ

variable (m : (ℓ : Loc nD τ sig) → Buf (Elt Ideal) ℓ) (ρ : Dev nD → PrngReg)

/-- The result's block at grid point `t`. -/
def oAt (c : Dev nD) (t : Fin cfg0.N) : Vec Ideal S1x1024x384 .bf16 :=
  out8 (iblk m c 0 t) (iblk m c 1 t) (iblk m c 2 t) (iblk m c 3 t) (iblk m c 4 t) (iblk m c 5 t)

/-- The proof data: each input's buffer keeps its block, the result's buffer ends at `oAt`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oAt m c t
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

/-! What the body leaves, window by window. -/
theorem after_0 (c : Dev nD) (t : Fin cfg0.N) : (dats m 0 c).after 0 t = iblk m c 0 t := by dsimp only [dats]
/-- What this stage of the run leaves. -/
theorem after_1 (c : Dev nD) (t : Fin cfg0.N) : (dats m 0 c).after 1 t = iblk m c 1 t := by dsimp only [dats]
/-- What this stage of the run leaves. -/
theorem after_2 (c : Dev nD) (t : Fin cfg0.N) : (dats m 0 c).after 2 t = iblk m c 2 t := by dsimp only [dats]
/-- What this stage of the run leaves. -/
theorem after_3 (c : Dev nD) (t : Fin cfg0.N) : (dats m 0 c).after 3 t = iblk m c 3 t := by dsimp only [dats]
/-- What this stage of the run leaves. -/
theorem after_4 (c : Dev nD) (t : Fin cfg0.N) : (dats m 0 c).after 4 t = iblk m c 4 t := by dsimp only [dats]
/-- What this stage of the run leaves. -/
theorem after_5 (c : Dev nD) (t : Fin cfg0.N) : (dats m 0 c).after 5 t = iblk m c 5 t := by dsimp only [dats]
/-- What this stage of the run leaves. -/
theorem after_6 (c : Dev nD) (t : Fin cfg0.N) : (dats m 0 c).after 6 t = oAt m c t := by dsimp only [dats]

/-! Each input's buffer holds its block when the body starts. -/
theorem before_0 (c : Dev nD) (t : Fin cfg0.N) (d) : (dats m 0 c).before 0 t d = iblk m c 0 t :=
  before0_0_of m (dats m 0 c) (A_eq m c 0) (after_0 m c) t d
/-- What this stage of the run finds. -/
theorem before_1 (c : Dev nD) (t : Fin cfg0.N) (d) : (dats m 0 c).before 1 t d = iblk m c 1 t :=
  before0_1_of m (dats m 0 c) (A_eq m c 1) (after_1 m c) t d
/-- What this stage of the run finds. -/
theorem before_2 (c : Dev nD) (t : Fin cfg0.N) (d) : (dats m 0 c).before 2 t d = iblk m c 2 t :=
  before0_2_of m (dats m 0 c) (A_eq m c 2) (after_2 m c) t d
/-- What this stage of the run finds. -/
theorem before_3 (c : Dev nD) (t : Fin cfg0.N) (d) : (dats m 0 c).before 3 t d = iblk m c 3 t :=
  before0_3_of m (dats m 0 c) (A_eq m c 3) (after_3 m c) t d
/-- What this stage of the run finds. -/
theorem before_4 (c : Dev nD) (t : Fin cfg0.N) (d) : (dats m 0 c).before 4 t d = iblk m c 4 t :=
  before0_4_of m (dats m 0 c) (A_eq m c 4) (after_4 m c) t d
/-- What this stage of the run finds. -/
theorem before_5 (c : Dev nD) (t : Fin cfg0.N) (d) : (dats m 0 c).before 5 t d = iblk m c 5 t :=
  before0_5_of m (dats m 0 c) (A_eq m c 5) (after_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The buffers the body works on at point `t`. -/
def bufs (t : Fin cfg0.N) : Bufs :=
  ⟨ms0_0 t, hs0_0 t, ms0_1 t, hs0_1 t, ms0_2 t, hs0_2 t, ms0_3 t, hs0_3 t, ms0_4 t, hs0_4 t, ms0_5 t, hs0_5 t, ms0_6 t, hs0_6 t,
   scM0_0, Memref.isWhole_whole _, scM0_1, Memref.isWhole_whole _, scM0_2, Memref.isWhole_whole _, scM0_3, Memref.isWhole_whole _,
   scM0_4, Memref.isWhole_whole _, scM0_5, Memref.isWhole_whole _, scM0_6, Memref.isWhole_whole _, scM0_7, Memref.isWhole_whole _⟩

/-- The body at point `t` is the structured program on these buffers. -/
theorem bodyAt_eq (t : Fin cfg0.N) : bodyAt0 (F := Ideal) t = kprog (bufs t) := by
  rw [← body_eq (grid0.coords t) (bufs t)]
  unfold bodyAt0
  rw [cc0__kernel_eq_skeleton]
  rfl

set_option maxHeartbeats 1200000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  rw [bodyAt_eq]
  unfold bodyPre bodyPost
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl, PhiA0_eq]
  iintro ⟨⟨⟨⟨%s0, HS0⟩, ⟨%s1, HS1⟩, ⟨%s2, HS2⟩, ⟨%s3, HS3⟩, ⟨%s4, HS4⟩, ⟨%s5, HS5⟩, ⟨%s6, HS6⟩, ⟨%s7, HS7⟩⟩, Hg⟩, Ho, ⟨%d0, H0⟩, ⟨%d1, H1⟩, ⟨%d2, H2⟩, ⟨%d3, H3⟩, ⟨%d4, H4⟩, ⟨%d5, H5⟩, ⟨%d6, H6⟩⟩
  have h := kprog_tri (B := bufs t) (c := c)
    (σ := ⟨iblk m c 0 t, iblk m c 1 t, iblk m c 2 t, iblk m c 3 t, iblk m c 4 t, iblk m c 5 t, (dats m 0 c).before 6 t d6, s0, s1, s2, s3, s4, s5, s6, s7⟩)
  unfold Tri at h
  iapply (wp_wand_r frame (wpE (defs₀ (F := Ideal)) Variants.none (c : Thread nD τ) none) Set.univ)
  isplitl [H0 H1 H2 H3 H4 H5 H6 HS0 HS1 HS2 HS3 HS4 HS5 HS6 HS7]
  · iapply h
    unfold St
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  iintro %a ⟨%σ', %hσ, HT⟩
  obtain ⟨e2, e3, e4, e5, e6, e7, e8⟩ := hσ
  unfold St
  rw [e2, e3, e4, e5, e6, e7, e8]
  icases HT with ⟨H0, H1, H2, H3, H4, H5, H6, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      isplitl [HS6]; · iexists _; iexact HS6
      iexists _; iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The run, every counter at zero after it. -/
theorem run_main_quiescent : θ_run defs (onTc (τ := τ) (main (F := Ideal))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run. -/
theorem run_main : θ_run defs (onTc (τ := τ) (main (F := Ideal))) (s₀ m ρ) (Pipeline.FramePost cfgs (dats m) 0 (V m)) :=
  (θ_run defs _ _).mono (fun _ h => h.1) (run_main_quiescent m ρ)

/-- Grid points write different blocks. -/
theorem idx_inj6 : ∀ t t' : Fin cfg0.N, win0_6.index t = win0_6.index t' → t = t' :=
  (by decide +kernel : ∀ t t' : Fin grid0.N, win0_6.index t = win0_6.index t' → t = t')

/-- So their blocks do not meet. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- Block `t` of the result is what point `t` left. -/
theorem blocks6 (c : Dev nD) (t : Fin cfg0.N) :
    ((cfg0.win 6).blk t).view.read (Elt Ideal) ((dats m 0 c).arrAt 6 cfg0.N) = (cfg0.win 6).cut (grid0.coords t) (oAt m c t) := by
  rw [(dats m 0 c).read_blk_arrAt_eq_flushed 6 disjoint6 cfg0.N t t.isLt (flush0_6 t)]
  show (cfg0.win 6).cut (grid0.coords t) ((dats m 0 c).after 6 t) = _
  rw [after_6]

/-- The result and the arguments after the run. -/
theorem run_blocks : θ_run defs (onTc (τ := τ) (main (F := Ideal))) ⟨m, fun _ => 0, ρ⟩ fun r => ∀ c : Dev nD,
      r.2.mem ((c : Thread nD τ).loc main_v6) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal
-- ==== Proof.Spec1.lean ====
/- Powers of two by their bits, and the exponent of a block's scale. -/
module

public import proofs.«01_k».proof.Proof.KSpec

@[expose] public section

noncomputable section

namespace Cert.KernelIdeal

open Idealize.ShloMosaic

/-- An f32 with exponent field `E` and nothing else is a power of two. -/
theorem pw_ofNat (E : Nat) (h1 : 1 ≤ E) (h2 : E ≤ 254) : pw (BitVec.ofNat 32 E) = (((2 : ℝ) ^ ((E : ℤ) - 127) : ℝ) : EReal) := by
  have hn : ((BitVec.ofNat 32 E) <<< (23 : Nat)).toNat = E * 2 ^ 23 := by
    rw [BitVec.toNat_shiftLeft, BitVec.toNat_ofNat, Nat.shiftLeft_eq]; omega
  have e1 : ((BitVec.ofNat 32 E) <<< (23 : Nat)).extractLsb' (8 + 23) 1 = 0#1 := by
    apply BitVec.eq_of_toNat_eq
    rw [BitVec.extractLsb'_toNat, hn, Nat.shiftRight_eq_div_pow, BitVec.toNat_ofNat]; omega
  have e2 : (((BitVec.ofNat 32 E) <<< (23 : Nat)).extractLsb' 23 8).toNat = E := by
    rw [BitVec.extractLsb'_toNat, hn, Nat.shiftRight_eq_div_pow]; omega
  have e3 : (((BitVec.ofNat 32 E) <<< (23 : Nat)).extractLsb' 0 23).toNat = 0 := by
    rw [BitVec.extractLsb'_toNat, hn, Nat.shiftRight_eq_div_pow]; omega
  show Ideal.ieee 8 23 _ = _
  unfold Ideal.ieee
  simp only [e1, e2, e3]
  rw [if_neg (by omega), if_neg (by omega)]
  refine congrArg Real.toEReal ?_
  rw [show (E : ℤ) - 127 = ((E : ℤ) - (2 ^ (8 - 1) - 1) - (23 : ℕ)) + 23 by omega, zpow_add₀ (by norm_num)]
  norm_num
  ring

/-- A bf16 with exponent field `E` and nothing else is a power of two. -/
theorem bf_ofNat (E : Nat) (h1 : 1 ≤ E) (h2 : E ≤ 254) :
    Ideal.ofBits .bf16 (BitVec.ofNat 16 (E * 128)) = (((2 : ℝ) ^ ((E : ℤ) - 127) : ℝ) : EReal) := by
  have hn : (BitVec.ofNat 16 (E * 128)).toNat = E * 2 ^ 7 := by
    rw [BitVec.toNat_ofNat]; omega
  have e1 : (BitVec.ofNat 16 (E * 128)).extractLsb' (8 + 7) 1 = 0#1 := by
    apply BitVec.eq_of_toNat_eq
    rw [BitVec.extractLsb'_toNat, hn, Nat.shiftRight_eq_div_pow, BitVec.toNat_ofNat]; omega
  have e2 : ((BitVec.ofNat 16 (E * 128)).extractLsb' 7 8).toNat = E := by
    rw [BitVec.extractLsb'_toNat, hn, Nat.shiftRight_eq_div_pow]; omega
  have e3 : ((BitVec.ofNat 16 (E * 128)).extractLsb' 0 7).toNat = 0 := by
    rw [BitVec.extractLsb'_toNat, hn, Nat.shiftRight_eq_div_pow]; omega
  show Ideal.ieee 8 7 _ = _
  unfold Ideal.ieee
  simp only [e1, e2, e3]
  rw [if_neg (by omega), if_neg (by omega)]
  refine congrArg Real.toEReal ?_
  rw [show (E : ℤ) - 127 = ((E : ℤ) - (2 ^ (8 - 1) - 1) - (7 : ℕ)) + 7 by omega, zpow_add₀ (by norm_num)]
  norm_num
  ring

/-- Both halves of the word of an exponent `-c` hold the bf16 `2^-c`. -/
theorem hv_bits : ∀ c : Fin 127, ∀ b : Fin 2, ((wordE (0#32 - BitVec.ofNat 32 c)) >>> (16 * b.val)).setWidth 16 = BitVec.ofNat 16 ((127 - c.val) * 128) := by
  decide +kernel

/-- A fact of arithmetic used below: `hv_wordE`. -/
theorem hv_wordE (c : Nat) (hc : c ≤ 126) (b : Nat) (hb : b < 2) :
    hv (wordE (0#32 - BitVec.ofNat 32 c)) b = (((2 : ℝ) ^ (-(c : ℤ)) : ℝ) : EReal) := by
  unfold hv
  rw [hv_bits ⟨c, by omega⟩ ⟨b, hb⟩]
  show Ideal.ofBits .bf16 (BitVec.ofNat 16 ((127 - c) * 128)) = _
  rw [bf_ofNat (127 - c) (by omega) (by omega)]
  refine congrArg (fun z : ℤ => (((2 : ℝ) ^ z : ℝ) : EReal)) ?_
  omega

/-- The factor of an exponent `-c` is `2^c`. -/
theorem pw_neg (c : Nat) (hc : c ≤ 126) : pw (127#32 - (0#32 - BitVec.ofNat 32 c)) = (((2 : ℝ) ^ (c : ℤ) : ℝ) : EReal) := by
  rw [show 127#32 - (0#32 - BitVec.ofNat 32 c) = BitVec.ofNat 32 (127 + c) by
    apply BitVec.eq_of_toNat_eq
    simp only [BitVec.toNat_sub, BitVec.toNat_ofNat]; omega, pw_ofNat _ (by omega) (by omega)]
  refine congrArg (fun z : ℤ => (((2 : ℝ) ^ z : ℝ) : EReal)) ?_
  push_cast; ring

/-- A fact of arithmetic used below: `pw_thr`. -/
theorem pw_thr (m : Nat) (hm : m < 126) : pw (126#32 - BitVec.ofNat 32 m) = (((2 : ℝ) ^ (-((m : ℤ) + 1)) : ℝ) : EReal) := by
  rw [show 126#32 - BitVec.ofNat 32 m = BitVec.ofNat 32 (126 - m) by
    apply BitVec.eq_of_toNat_eq
    simp only [BitVec.toNat_sub, BitVec.toNat_ofNat]; omega, pw_ofNat _ (by omega) (by omega)]
  refine congrArg (fun z : ℤ => (((2 : ℝ) ^ z : ℝ) : EReal)) ?_
  omega

/-- The exponent of a number below one is `-c` with the number below `2^-c`. -/
theorem eN_spec (y : ℝ) (h1 : y < 1) : ∃ c : Nat, c ≤ 126 ∧ eN (y : EReal) = 0#32 - BitVec.ofNat 32 c ∧ y < (2 : ℝ) ^ (-(c : ℤ)) := by
  unfold eN
  by_cases h0 : (y : EReal) = 0
  · refine ⟨0, by omega, ?_, ?_⟩
    · rw [if_pos h0]; rfl
    · simpa using h1
  rw [if_neg h0]
  have hS : (∑ m : Fin 126, if (y : EReal) < pw (126#32 - BitVec.ofNat 32 m) then 1 else 0)
      = (Finset.univ.filter fun m : Fin 126 => y < (2 : ℝ) ^ (-((m.val : ℤ) + 1))).card := by
    rw [Finset.card_filter]
    refine Finset.sum_congr rfl fun m _ => ?_
    rw [pw_thr m m.isLt]
    simp only [EReal.coe_lt_coe_iff]
  rw [hS]
  set S := Finset.univ.filter fun m : Fin 126 => y < (2 : ℝ) ^ (-((m.val : ℤ) + 1)) with hSd
  refine ⟨S.card, (Finset.card_le_univ S).trans (by simp), rfl, ?_⟩
  by_contra hy
  have hy' := not_lt.mp hy
  have hc : 0 < S.card := by
    rcases Nat.eq_zero_or_pos S.card with h | h
    · rw [h] at hy'; norm_num at hy'; linarith
    · exact h
  have hsub : ∀ m ∈ S, m.val ∈ Finset.range (S.card - 1) := by
    intro m hm
    have hm' := (Finset.mem_filter.mp hm).2
    have := (zpow_lt_zpow_iff_right₀ (by norm_num : (1 : ℝ) < 2)).mp (hy'.trans_lt hm')
    rw [Finset.mem_range]; omega
  have := Finset.card_le_card_of_injOn (fun m : Fin 126 => m.val) hsub (fun a _ b _ h => Fin.ext h)
  rw [Finset.card_range] at this
  omega

end Cert.KernelIdeal
-- ==== Proof.Spec2.lean ====
/- The kernel's quantised probability of a key is its softmax weight. -/
module

public import proofs.«01_k».proof.Proof.Spec1
public import proofs.«01_k».proof.Proof.KTri2

@[expose] public section

noncomputable section

namespace Cert.KernelIdeal

open Idealize.ShloMosaic

/-- The kernel's constant as a real number. -/
def kr : ℝ := (Real.sqrt 128)⁻¹ * (Real.log 2)⁻¹

/-- A fact of arithmetic used below: `kr_pos`. -/
theorem kr_pos : 0 < kr := by
  have : 0 < Real.log 2 := Real.log_pos (by norm_num)
  unfold kr; positivity

/-- A fact of arithmetic used below: `kc_eq`. -/
theorem kc_eq : kc = (kr : EReal) := by
  unfold kc cc kr
  exact IdealRules.named_const.ideal_named_scalar κ "log2e_scale" _ _ rfl

/-- The maximum of the first `N` scores. -/
def mx (N : Nat) (s : Nat → EReal) : EReal := (Finset.range N).sup s

/-- A score's exponential, the maximum taken off. -/
def px (N : Nat) (s : Nat → EReal) (k : Nat) : EReal := Ideal.exp2 (s k * kc - mx N s * kc)

/-- The softmax weight of key `k` among the first `N`; zero where there is no finite maximum. -/
def W (N : Nat) (s : Nat → EReal) (k : Nat) : EReal :=
  if mx N s = ⊥ ∨ mx N s = ⊤ then 0 else px N s k * (∑ j ∈ Finset.range N, px N s j)⁻¹

/-- A fact of arithmetic used below: `exp2_coe`. -/
theorem exp2_coe (r : ℝ) : Ideal.exp2 (r : EReal) = (((2 : ℝ) ^ r : ℝ) : EReal) := rfl

/-- A fact of arithmetic used below: `exp2_bot`. -/
theorem exp2_bot : Ideal.exp2 ⊥ = 0 := rfl

/-- A fact of arithmetic used below: `bot_kc`. -/
theorem bot_kc : (⊥ : EReal) * kc = ⊥ := by rw [kc_eq]; exact EReal.bot_mul_coe_of_pos kr_pos

/-- A fact of arithmetic used below: `top_kc`. -/
theorem top_kc : (⊤ : EReal) * kc = ⊤ := by rw [kc_eq]; exact EReal.top_mul_coe_of_pos kr_pos

/-- With no finite maximum every exponential is zero. -/
theorem px_zero {N : Nat} {s : Nat → EReal} (h : mx N s = ⊥ ∨ mx N s = ⊤) (k : Nat) (hk : k < N) : px N s k = 0 := by
  unfold px
  rcases h with h | h
  · have : s k = ⊥ := by
      have := Finset.le_sup (f := s) (Finset.mem_range.mpr hk)
      rw [show (Finset.range N).sup s = ⊥ from h] at this
      exact le_bot_iff.mp this
    rw [this, h, bot_kc]; rfl
  · rw [h, top_kc, sub_eq_add_neg, EReal.neg_top, EReal.add_bot]; rfl

/-- With a finite maximum the exponentials are reals from 0 to 1, one of them 1, ordered as the scores are. -/
theorem px_real {N : Nat} {s : Nat → EReal} (hN : 0 < N) (h : ¬(mx N s = ⊥ ∨ mx N s = ⊤)) :
    ∃ x : Nat → ℝ, (∀ k, 0 ≤ x k) ∧ (∀ k < N, px N s k = (x k : EReal)) ∧ (∃ k < N, x k = 1) ∧
      (∀ k < N, ∀ j < N, s k ≤ s j → x k ≤ x j) := by
  obtain ⟨m, hm⟩ : ∃ m : ℝ, mx N s = (m : EReal) := by
    exact ⟨(mx N s).toReal, (EReal.coe_toReal (fun h' => h (Or.inr h')) fun h' => h (Or.inl h')).symm⟩
  have hle : ∀ k < N, s k ≤ (m : EReal) := fun k hk => hm ▸ Finset.le_sup (f := s) (Finset.mem_range.mpr hk)
  have hv : ∀ k < N, s k = ⊥ ∨ ∃ r : ℝ, s k = (r : EReal) := by
    intro k hk
    by_cases hb : s k = ⊥
    · exact Or.inl hb
    · refine Or.inr ⟨(s k).toReal, (EReal.coe_toReal (fun ht => ?_) hb).symm⟩
      have := hle k hk; rw [ht] at this; exact EReal.coe_ne_top m (top_le_iff.mp this)
  refine ⟨fun k => if s k = ⊥ then 0 else (2 : ℝ) ^ ((s k).toReal * kr - m * kr), fun k => ?_, fun k hk => ?_, ?_, ?_⟩
  · dsimp only; split
    · exact le_refl _
    · positivity
  · unfold px
    rw [hm]
    dsimp only
    rcases hv k hk with h0 | ⟨r, hr⟩
    · rw [h0, bot_kc, if_pos rfl]; rfl
    · rw [hr, if_neg (EReal.coe_ne_bot r), kc_eq, EReal.toReal_coe, ← EReal.coe_mul, ← EReal.coe_mul, ← EReal.coe_sub, exp2_coe]
  · obtain ⟨k, hk, he⟩ := Finset.exists_mem_eq_sup (Finset.range N) ⟨0, Finset.mem_range.mpr hN⟩ s
    refine ⟨k, Finset.mem_range.mp hk, ?_⟩
    have : s k = (m : EReal) := he ▸ hm
    dsimp only
    rw [this, if_neg (EReal.coe_ne_bot m), EReal.toReal_coe, sub_self, Real.rpow_zero]
  · intro k hk j hj hkj
    dsimp only
    rcases hv k hk with h0 | ⟨r, hr⟩
    · rw [h0, if_pos rfl]; split
      · exact le_refl _
      · positivity
    · rcases hv j hj with h1 | ⟨r', hr'⟩
      · rw [hr, h1] at hkj; exact absurd (le_bot_iff.mp hkj) (EReal.coe_ne_bot r)
      · rw [hr, hr'] at hkj ⊢
        rw [if_neg (EReal.coe_ne_bot r), if_neg (EReal.coe_ne_bot r'), EReal.toReal_coe, EReal.toReal_coe]
        refine Real.rpow_le_rpow_of_exponent_le (by norm_num) ?_
        have := mul_le_mul_of_nonneg_right (EReal.coe_le_coe_iff.mp hkj) kr_pos.le
        linarith

/-- A sum of reals among the extended reals. -/
theorem coe_sum (S : Finset Nat) (x : Nat → ℝ) : (∑ k ∈ S, (x k : EReal)) = ((∑ k ∈ S, x k : ℝ) : EReal) := by
  induction S using Finset.induction_on with
  | empty => simp
  | insert a S ha ih => rw [Finset.sum_insert ha, Finset.sum_insert ha, ih, EReal.coe_add]

/-- The sum of the exponentials, with a finite maximum: a real, at least one. -/
theorem sum_real {N : Nat} {s : Nat → EReal} {x : Nat → ℝ} (h0 : ∀ k, 0 ≤ x k) (hx : ∀ k < N, px N s k = (x k : EReal))
    (h1 : ∃ k < N, x k = 1) : (∑ j ∈ Finset.range N, px N s j) = ((∑ j ∈ Finset.range N, x j : ℝ) : EReal) ∧
      1 ≤ ∑ j ∈ Finset.range N, x j := by
  refine ⟨?_, ?_⟩
  · rw [← coe_sum]
    exact Finset.sum_congr rfl fun k hk => hx k (Finset.mem_range.mp hk)
  · obtain ⟨k, hk, he⟩ := h1
    rw [← he]
    exact Finset.single_le_sum (f := x) (fun j _ => h0 j) (Finset.mem_range.mpr hk)

/-- The weight, with a finite maximum. -/
theorem W_real {N : Nat} {s : Nat → EReal} {x : Nat → ℝ} (h : ¬(mx N s = ⊥ ∨ mx N s = ⊤)) (h0 : ∀ k, 0 ≤ x k)
    (hx : ∀ k < N, px N s k = (x k : EReal)) (h1 : ∃ k < N, x k = 1) (k : Nat) (hk : k < N) :
    W N s k = ((x k * (∑ j ∈ Finset.range N, x j)⁻¹ : ℝ) : EReal) := by
  unfold W
  rw [if_neg h, (sum_real h0 hx h1).1, hx k hk, EReal.coe_mul, EReal.coe_inv]

/-- Keys after the first `N`, all of them masked, change no weight, and have none. -/
theorem W_extend {N N' : Nat} {s : Nat → EReal} (hN : N ≤ N') (hs : ∀ k, N ≤ k → k < N' → s k = ⊥) :
    (∀ k, W N' s k = W N s k) ∧ (∀ k, N ≤ k → k < N' → W N' s k = 0) := by
  have hm : mx N' s = mx N s := by
    apply le_antisymm
    · refine Finset.sup_le fun k hk => ?_
      by_cases h : k < N
      · exact Finset.le_sup (Finset.mem_range.mpr h)
      · rw [hs k (by omega) (Finset.mem_range.mp hk)]; exact bot_le
    · exact Finset.sup_mono (Finset.range_mono hN)
  have hp : ∀ k, px N' s k = px N s k := fun k => by unfold px; rw [hm]
  have h0 : ∀ k, N ≤ k → k < N' → ¬(mx N s = ⊤) → px N s k = 0 := fun k h1 h2 h3 => by
    unfold px
    rw [hs k h1 h2, bot_kc, sub_eq_add_neg, EReal.bot_add]; rfl
  constructor
  · intro k
    unfold W
    rw [hm, hp k]
    by_cases h : mx N s = ⊥ ∨ mx N s = ⊤
    · rw [if_pos h, if_pos h]
    · rw [if_neg h, if_neg h]
      congr 2
      rw [Finset.sum_congr rfl fun j _ => hp j]
      exact (Finset.sum_subset (Finset.range_mono hN) fun j h1 h2 =>
        h0 j (by simpa using h2) (Finset.mem_range.mp h1) fun h' => h (Or.inr h')).symm
  · intro k h1 h2
    unfold W
    rw [hm, hp k]
    by_cases h : mx N s = ⊥ ∨ mx N s = ⊤
    · rw [if_pos h]
    · rw [if_neg h, h0 k h1 h2 fun h' => h (Or.inr h'), zero_mul]

/-- The constant by which a block's maximum is scaled down, a little above `1/57344`. -/
def cq : ℝ := 9586981 / 2 ^ 39

/-- A fact of arithmetic used below: `cq_eq`. -/
theorem cq_eq : Ideal.ofBits .f32 0x37924925#32 = (cq : EReal) := by
  unfold cq
  simp [Ideal.ofBits, Ideal.ieee, -EReal.coe_mul]; norm_num

/-- A fact of arithmetic used below: `fmax_eq`. -/
theorem fmax_eq : Ideal.ofBits .f32 0x47600000#32 = (57344 : EReal) := by
  have : Ideal.ofBits .f32 0x47600000#32 = ((57344 : ℝ) : EReal) := by
    simp [Ideal.ofBits, Ideal.ieee, -EReal.coe_mul]; norm_num
  rw [this]; rfl

/-- A fact of arithmetic used below: `cq_le`. -/
theorem cq_le : 1 ≤ cq * 57344 := by unfold cq; norm_num

/-- A fact of arithmetic used below: `cq_lt`. -/
theorem cq_lt : cq < 1 := by unfold cq; norm_num

/-- A fact of arithmetic used below: `cq_pos`. -/
theorem cq_pos : 0 < cq := by unfold cq; norm_num

/-- What a block's maximum is: at least every score of the block, and one of them. -/
structure IsMax (n : Nat) (s bm : Nat → EReal) : Prop where
  le : ∀ k < 32 * n, s k ≤ bm (k / 32)
  mem : ∀ j < n, ∃ i < 32, bm j = s (32 * j + i)

/-- A fact of arithmetic used below: `colM_eq`. -/
theorem colM_eq {n : Nat} {s bm : Nat → EReal} (H : IsMax n s bm) : colM n bm = mx (32 * n) s * kc := by
  unfold colM
  congr 1
  apply le_antisymm
  · refine Finset.sup_le fun j _ => ?_
    obtain ⟨i, hi, he⟩ := H.mem j j.isLt
    rw [he]
    exact Finset.le_sup (f := s) (Finset.mem_range.mpr (by have := j.isLt; omega))
  · refine Finset.sup_le fun k hk => ?_
    have hk' := Finset.mem_range.mp hk
    exact (H.le k hk').trans (Finset.le_sup (f := fun j : Fin n => bm j) (Finset.mem_univ (⟨k / 32, by omega⟩ : Fin n)))

/-- A sum over all keys is the sum over the blocks of the sums in each block. -/
theorem sum_blocks (n : Nat) (P : Nat → EReal) :
    (∑ i : Fin 8, ∑ j ∈ Finset.range n, ∑ g : Fin 4, P (32 * j + (g * 8 + i))) = ∑ k ∈ Finset.range (32 * n), P k := by
  rw [Finset.sum_comm]
  induction n with
  | zero => simp
  | succ n ih =>
    rw [Finset.sum_range_succ, ih, show 32 * (n + 1) = 32 * n + 32 by ring, Finset.sum_range_add]
    congr 1
    simp only [Fin.sum_univ_succ, Finset.sum_range_succ, Finset.sum_range_zero, Fin.sum_univ_zero, Fin.val_zero, Fin.val_succ, zero_add, add_zero,
      Finset.univ_eq_empty, Finset.sum_empty]
    norm_num
    abel

/-- The kernel's quantised probability of a key is its softmax weight: the scaled values stay below the largest
    e5m2, so the clip does nothing, and the scale comes off again. -/
theorem colPt_eq {n : Nat} {s bm : Nat → EReal} (H : IsMax n s bm) {k : Nat} (hk : k < 32 * n) : colPt n s bm k = W (32 * n) s k := by
  have hP : colP s (colM n bm) = px (32 * n) s := by
    funext k; unfold colP px; rw [colM_eq H]
  unfold colPt
  rw [hP]
  unfold colR colE
  rw [sum_blocks, colM_eq H, cq_eq]
  obtain ⟨i, hi, he⟩ := H.mem (k / 32) (by omega)
  rw [he, show Ideal.exp2 (s (32 * (k / 32) + i) * kc - mx (32 * n) s * kc) = px (32 * n) s (32 * (k / 32) + i) from rfl]
  have hk' : 32 * (k / 32) + i < 32 * n := by omega
  by_cases h : mx (32 * n) s = ⊥ ∨ mx (32 * n) s = ⊤
  · rw [px_zero h k hk, px_zero h _ hk', zero_mul, zero_mul, zero_mul]
    unfold W
    rw [if_pos h]
    rw [min_eq_left (by norm_num), zero_mul]
  · obtain ⟨x, h0, hx, h1, hmono⟩ := px_real (by omega) h
    obtain ⟨hS, hS1⟩ := sum_real h0 hx h1
    rw [W_real h h0 hx h1 k hk, hS, hx k hk, hx _ hk']
    set Z := ∑ j ∈ Finset.range (32 * n), x j with hZ
    have hZ0 : 0 < Z := by linarith
    have hdiv : Ideal.div 1 (Z : EReal) = ((Z⁻¹ : ℝ) : EReal) := by
      unfold Ideal.div
      rw [if_neg (by exact_mod_cast hZ0.ne'), one_mul, EReal.coe_inv]
    rw [hdiv, ← EReal.coe_mul, ← EReal.coe_mul]
    have hle : x k ≤ x (32 * (k / 32) + i) := hmono k hk _ hk' (he ▸ H.le k hk)
    have hxZ : x (32 * (k / 32) + i) ≤ Z :=
      Finset.single_le_sum (f := x) (fun j _ => h0 j) (Finset.mem_range.mpr hk')
    have hy1 : x (32 * (k / 32) + i) * Z⁻¹ * cq < 1 := by
      have : x (32 * (k / 32) + i) * Z⁻¹ ≤ 1 := by
        rw [← div_eq_mul_inv, div_le_one hZ0]; exact hxZ
      nlinarith [cq_pos, cq_lt]
    obtain ⟨c, hc, hce, hcy⟩ := eN_spec _ hy1
    rw [hce, pw_neg c hc, hv_wordE c hc _ (Nat.mod_lt _ (by norm_num)), ← EReal.coe_mul, ← EReal.coe_mul]
    have h2 : (0 : ℝ) < 2 ^ (c : ℤ) := by positivity
    have h22 : (2 : ℝ) ^ (c : ℤ) * 2 ^ (-(c : ℤ)) = 1 := by rw [← zpow_add₀ (by norm_num)]; simp
    have hb : x k * (2 ^ (c : ℤ) * Z⁻¹) ≤ 57344 := by
      have hZi : 0 < Z⁻¹ := inv_pos.mpr hZ0
      have h3 : x k * Z⁻¹ * cq < 2 ^ (-(c : ℤ)) :=
        (mul_le_mul_of_nonneg_right (mul_le_mul_of_nonneg_right hle hZi.le) cq_pos.le).trans_lt hcy
      have h4 : x k * Z⁻¹ * cq * 2 ^ (c : ℤ) < 1 := by
        have := mul_lt_mul_of_pos_right h3 h2
        rwa [mul_comm (2 ^ (-(c : ℤ)) : ℝ), h22] at this
      have h5 : 0 ≤ x k * (2 ^ (c : ℤ) * Z⁻¹) := mul_nonneg (h0 k) (by positivity)
      nlinarith [cq_le, cq_pos]
    rw [min_eq_left (show (((x k * (2 ^ (c : ℤ) * Z⁻¹) : ℝ)) : EReal) ≤ 57344 from EReal.coe_le_coe_iff.mpr hb), ← EReal.coe_mul]
    refine congrArg Real.toEReal ?_
    calc x k * (2 ^ (c : ℤ) * Z⁻¹) * 2 ^ (-(c : ℤ)) = x k * Z⁻¹ * (2 ^ (c : ℤ) * 2 ^ (-(c : ℤ))) := by ring
      _ = x k * Z⁻¹ := by rw [h22, mul_one]

/-- The kernel's maxima of blocks are such. -/
theorem isMax_bmS (n : Nat) (s : Nat → EReal) : IsMax n s (bmS s) := by
  constructor
  · intro k hk
    unfold bmS
    refine le_trans ?_ (Finset.le_sup (f := fun i => gmx s (i + 8 * (k / 32))) (Finset.mem_range.mpr (show k % 8 < 8 by omega)))
    unfold gmx
    refine le_trans (le_of_eq (congrArg s ?_))
      (Finset.le_sup (f := fun g : Fin 4 => s ((k % 8 + 8 * (k / 32)) / 8 * 32 + g * 8 + (k % 8 + 8 * (k / 32)) % 8))
        (Finset.mem_univ (⟨k % 32 / 8, by omega⟩ : Fin 4)))
    show k = (k % 8 + 8 * (k / 32)) / 8 * 32 + k % 32 / 8 * 8 + (k % 8 + 8 * (k / 32)) % 8
    omega
  · intro j hj
    unfold bmS
    obtain ⟨i, hi, he⟩ := Finset.exists_mem_eq_sup (Finset.range 8) ⟨0, by simp⟩ fun i => gmx s (i + 8 * j)
    rw [he]
    unfold gmx
    obtain ⟨g, -, hg⟩ := Finset.exists_mem_eq_sup (Finset.univ : Finset (Fin 4)) ⟨0, by simp⟩
      fun g => s ((i + 8 * j) / 8 * 32 + g * 8 + (i + 8 * j) % 8)
    have hi' := Finset.mem_range.mp hi
    refine ⟨g * 8 + i, by have := g.isLt; omega, ?_⟩
    rw [hg]
    refine congrArg s ?_
    have : (i + 8 * j) / 8 = j := by omega
    have : (i + 8 * j) % 8 = i := by omega
    omega

end Cert.KernelIdeal
-- ==== Proof.Spec3.lean ====
/- The reference's quantised probability of a key is its softmax weight. -/
module

public import proofs.«01_k».proof.Proof.Spec2

@[expose] public section

noncomputable section

namespace Cert.KernelIdeal

open Idealize.ShloMosaic

/-- The reference's scale as a real number. -/
def sr : ℝ := (Real.sqrt 128)⁻¹

/-- A fact of arithmetic used below: `sr_pos`. -/
theorem sr_pos : 0 < sr := by unfold sr; positivity

/-- The reference's exponential in base e is the kernel's in base 2. -/
theorem exp_exp2 (x y : EReal) : Ideal.exp (x * (sr : EReal) - y * (sr : EReal)) = Ideal.exp2 (x * kc - y * kc) := by
  have h2 : Real.log 2 ≠ 0 := (Real.log_pos (by norm_num)).ne'
  have hb : (⊥ : EReal) * (sr : EReal) = ⊥ := EReal.bot_mul_coe_of_pos sr_pos
  have ht : (⊤ : EReal) * (sr : EReal) = ⊤ := EReal.top_mul_coe_of_pos sr_pos
  induction x using EReal.rec with
  | bot => rw [hb, bot_kc, sub_eq_add_neg, sub_eq_add_neg, EReal.bot_add, EReal.bot_add]; rfl
  | top =>
    rw [ht, top_kc]
    induction y using EReal.rec with
    | bot => rw [hb, bot_kc]; rfl
    | top => rw [ht, top_kc, sub_eq_add_neg, EReal.neg_top, EReal.add_bot]; rfl
    | coe y => rw [kc_eq, ← EReal.coe_mul, ← EReal.coe_mul, EReal.top_sub_coe, EReal.top_sub_coe]; rfl
  | coe x =>
    induction y using EReal.rec with
    | bot =>
      rw [hb, bot_kc, kc_eq, ← EReal.coe_mul, ← EReal.coe_mul, EReal.coe_sub_bot, EReal.coe_sub_bot]; rfl
    | top => rw [ht, top_kc, sub_eq_add_neg, sub_eq_add_neg, EReal.neg_top, EReal.add_bot, EReal.add_bot]; rfl
    | coe y =>
      rw [kc_eq, ← EReal.coe_mul, ← EReal.coe_mul, ← EReal.coe_mul, ← EReal.coe_mul, ← EReal.coe_sub, ← EReal.coe_sub, exp2_coe]
      refine congrArg Real.toEReal ?_
      rw [Real.rpow_def_of_pos (by norm_num)]
      refine congrArg Real.exp ?_
      unfold kr sr
      field_simp

/-- The scale may be taken out of a maximum. -/
theorem sup_scale (N : Nat) (s : Nat → EReal) : ((Finset.range N).sup fun k => s k * (sr : EReal)) = mx N s * (sr : EReal) := by
  unfold mx
  refine (Finset.comp_sup_eq_sup_comp_of_is_total (fun x : EReal => x * (sr : EReal)) (fun a b h => ?_) (EReal.bot_mul_coe_of_pos sr_pos)).symm
  exact mul_le_mul_of_nonneg_right h (by exact_mod_cast sr_pos.le)

/-- The reference's softmax of the scaled scores. -/
def rP (N : Nat) (t : Nat → EReal) (k : Nat) : EReal :=
  Ideal.div (Ideal.exp (t k - (Finset.range N).sup t)) (∑ j ∈ Finset.range N, Ideal.exp (t j - (Finset.range N).sup t))

/-- The exponent of the scale of a block whose maximum is `a`. -/
def rE (a : EReal) : EReal :=
  if a = 0 then 0 else Ideal.liftRound Int.floor (Ideal.div (Ideal.log (a * Ideal.ofBits .f32 0x37924925#32)) (Ideal.log (Ideal.ofBits .f32 0x40000000#32))) + 1

/-- A probability in a block whose maximum is `a`, quantised and scaled back. -/
def rPt (p a : EReal) : EReal := min 57344 (max (-57344) (p * Ideal.exp2 (0 - rE a))) * Ideal.exp2 (rE a)

/-- A fact of arithmetic used below: `rP_eq`. -/
theorem rP_eq (N : Nat) (s : Nat → EReal) (k : Nat) :
    rP N (fun k => s k * (sr : EReal)) k = Ideal.div (px N s k) (∑ j ∈ Finset.range N, px N s j) := by
  unfold rP px
  rw [sup_scale]
  simp only [exp_exp2]

/-- A fact of arithmetic used below: `two_eq`. -/
theorem two_eq : Ideal.ofBits .f32 0x40000000#32 = ((2 : ℝ) : EReal) := by
  simp [Ideal.ofBits, Ideal.ieee, -EReal.coe_mul]; norm_num

/-- A fact of arithmetic used below: `log_pos'`. -/
theorem log_pos' {r : ℝ} (h : 0 < r) : Ideal.log (r : EReal) = (Real.log r : EReal) := by
  show (if r ≤ 0 then ⊥ else (Real.log r : EReal)) = _
  rw [if_neg (not_le.mpr h)]

/-- A fact of arithmetic used below: `div_coe`. -/
theorem div_coe {x y : ℝ} (h : y ≠ 0) : Ideal.div (x : EReal) (y : EReal) = ((x * y⁻¹ : ℝ) : EReal) := by
  unfold Ideal.div
  rw [if_neg (by exact_mod_cast h), EReal.coe_mul, EReal.coe_inv]

/-- A fact of arithmetic used below: `rE_bot`. -/
theorem rE_bot : rE ⊥ = ⊥ := by
  have h2 : 0 < Real.log 2 := Real.log_pos (by norm_num)
  unfold rE
  rw [if_neg (by simp), cq_eq, EReal.bot_mul_coe_of_pos cq_pos, two_eq, log_pos' (by norm_num)]
  show Ideal.liftRound Int.floor (Ideal.div ⊥ (Real.log 2 : EReal)) + 1 = ⊥
  unfold Ideal.div
  rw [if_neg (by exact_mod_cast h2.ne'), ← EReal.coe_inv, EReal.bot_mul_coe_of_pos (inv_pos.mpr h2)]
  show (⊥ : EReal) + 1 = ⊥
  exact EReal.bot_add 1

/-- The exponent for a positive maximum: a real number `e`, the scaled maximum below `2^e`. -/
theorem rE_pos {A : ℝ} (hA : 0 < A) : ∃ e : ℝ, rE (A : EReal) = (e : EReal) ∧ A * cq < (2 : ℝ) ^ e := by
  have h2 : 0 < Real.log 2 := Real.log_pos (by norm_num)
  have hy : 0 < A * cq := mul_pos hA cq_pos
  refine ⟨(⌊Real.log (A * cq) * (Real.log 2)⁻¹⌋ : ℝ) + 1, ?_, ?_⟩
  · unfold rE
    rw [if_neg (by exact_mod_cast hA.ne'), cq_eq, ← EReal.coe_mul, log_pos' hy, two_eq, log_pos' (by norm_num), div_coe h2.ne']
    rfl
  · have h := Int.lt_floor_add_one (Real.log (A * cq) * (Real.log 2)⁻¹)
    rw [Real.rpow_def_of_pos (by norm_num), ← Real.log_lt_iff_lt_exp hy]
    rw [← div_eq_mul_inv] at h ⊢
    have := (div_lt_iff₀ h2).mp h
    linarith

/-- The reference's quantised probability of a key is its softmax weight: the clip does nothing, and the scale comes off again. -/
theorem rPt_eq {N : Nat} {s : Nat → EReal} {k : Nat} (hk : k < N) {a : EReal}
    (hle : rP N (fun k => s k * (sr : EReal)) k ≤ a) (hmem : ∃ j < N, a = rP N (fun k => s k * (sr : EReal)) j) :
    rPt (rP N (fun k => s k * (sr : EReal)) k) a = W N s k := by
  obtain ⟨j, hj, rfl⟩ := hmem
  rw [rP_eq, rP_eq] at hle ⊢
  by_cases h : mx N s = ⊥ ∨ mx N s = ⊤
  · have hS : (∑ j ∈ Finset.range N, px N s j) = 0 := Finset.sum_eq_zero fun j hj => px_zero h j (Finset.mem_range.mp hj)
    rw [px_zero h k hk, px_zero h j hj, hS]
    have hd : Ideal.div 0 0 = ⊥ := by unfold Ideal.div; simp
    unfold rPt W
    rw [if_pos h, hd, rE_bot]
    show min 57344 (max (-57344) _) * (0 : EReal) = 0
    exact mul_zero _
  · obtain ⟨x, h0, hx, h1, hmono⟩ := px_real (by omega) h
    obtain ⟨hS, hS1⟩ := sum_real h0 hx h1
    rw [W_real h h0 hx h1 k hk]
    rw [hS, hx k hk, hx j hj] at hle ⊢
    set Z := ∑ j ∈ Finset.range N, x j with hZ
    have hZ0 : 0 < Z := by linarith
    rw [div_coe hZ0.ne', div_coe hZ0.ne'] at hle ⊢
    have hle' := EReal.coe_le_coe_iff.mp hle
    have hv : 0 ≤ x k * Z⁻¹ := mul_nonneg (h0 k) (inv_pos.mpr hZ0).le
    set v := x k * Z⁻¹ with hvd
    set A := x j * Z⁻¹ with hAd
    unfold rPt
    rcases (hv.trans hle').eq_or_lt with hA | hA
    · have hv0 : v = 0 := le_antisymm (hA ▸ hle') hv
      rw [hv0, EReal.coe_zero, zero_mul, max_eq_right (by rw [EReal.neg_le_zero]; exact_mod_cast (by norm_num : (0 : ℝ) ≤ 57344)), min_eq_right (by exact_mod_cast (by norm_num : (0 : ℝ) ≤ 57344)), zero_mul]
    · obtain ⟨e, he, hlt⟩ := rE_pos hA
      rw [he, show (0 : EReal) - (e : EReal) = ((-e : ℝ) : EReal) by rw [zero_sub, EReal.coe_neg], exp2_coe, exp2_coe, ← EReal.coe_mul]
      have hp : (0 : ℝ) < 2 ^ e := Real.rpow_pos_of_pos (by norm_num) e
      have hn : (0 : ℝ) < 2 ^ (-e) := Real.rpow_pos_of_pos (by norm_num) _
      have hpn : (2 : ℝ) ^ e * 2 ^ (-e) = 1 := by rw [← Real.rpow_add (by norm_num)]; simp
      have hb0 : 0 ≤ v * 2 ^ (-e) := mul_nonneg hv hn.le
      have hb : v * 2 ^ (-e) ≤ 57344 := by
        have h3 : v * cq < 2 ^ e := (mul_le_mul_of_nonneg_right hle' cq_pos.le).trans_lt hlt
        have h4 : v * cq * 2 ^ (-e) < 1 := by
          have := mul_lt_mul_of_pos_right h3 hn
          rwa [hpn] at this
        nlinarith [cq_le, cq_pos]
      rw [max_eq_right (show (-57344 : EReal) ≤ ((v * 2 ^ (-e) : ℝ) : EReal) from
          le_trans (show (-57344 : EReal) ≤ ((0 : ℝ) : EReal) from EReal.coe_le_coe_iff.mpr (by norm_num : (-57344 : ℝ) ≤ 0)) (EReal.coe_le_coe_iff.mpr hb0)),
        min_eq_right (show ((v * 2 ^ (-e) : ℝ) : EReal) ≤ (57344 : EReal) from EReal.coe_le_coe_iff.mpr hb), ← EReal.coe_mul]
      refine congrArg Real.toEReal ?_
      rw [mul_assoc, mul_comm ((2 : ℝ) ^ (-e)), hpn, mul_one]

end Cert.KernelIdeal
-- ==== Proof.Spec4.lean ====
/- The attention the kernel and the reference both compute, as one function of the six arguments. -/
module

public import proofs.«01_k».proof.Proof.KTri2
public import proofs.«01_k».proof.Proof.Spec3

@[expose] public section

noncomputable section

namespace Cert.KernelIdeal

open Idealize.ShloMosaic Idealize.SL.Sem

/-- The score of query position `i` against `key`, `⊥` above the diagonal. -/
def scoreS (q k : Nat → Nat → EReal) (i key : Nat) : EReal := if key ≤ i then ∑ d : Fin 128, k key d * q i d else ⊥

/-- One element of the attention of queries `q`, keys `k` and values `v`. -/
def outS (q k v : Nat → Nat → EReal) (i d : Nat) : EReal := ∑ key : Fin 1024, v key d * W 1024 (scoreS q k i) key

/-- A weight depends on the scores of the keys it ranges over. -/
theorem W_congr {N : Nat} {s s' : Nat → EReal} (h : ∀ k < N, s k = s' k) {k : Nat} (hk : k < N) : W N s k = W N s' k := by
  have e : mx N s = mx N s' := Finset.sup_congr rfl fun k hk => h k (Finset.mem_range.1 hk)
  have p : ∀ k < N, px N s k = px N s' k := fun k hk => by unfold px; rw [h k hk, e]
  unfold W
  rw [e, p k hk, Finset.sum_congr rfl fun k hk => p k (Finset.mem_range.1 hk)]

/-- Attention depends on the elements it reads. -/
theorem outS_congr {q q' k k' v v' : Nat → Nat → EReal} {i d : Nat} (hq : ∀ d < 128, q i d = q' i d)
    (hk : ∀ key < 1024, ∀ d < 128, k key d = k' key d) (hv : ∀ key < 1024, v key d = v' key d) : outS q k v i d = outS q' k' v' i d := by
  unfold outS
  refine Finset.sum_congr rfl fun key _ => ?_
  rw [hv key key.isLt]
  refine congrArg (v' key d * ·) (W_congr (fun n hn => ?_) key.isLt)
  unfold scoreS
  split
  · exact Finset.sum_congr rfl fun e _ => by rw [hk n hn e e.isLt, hq e e.isLt]
  · rfl

/-- The kernel's element is the attention's: the keys past the query's tile weigh nothing. -/
theorem outN_eq (x9 : Vec Ideal S3x128x1024 .bf16) (x10 : Vec Ideal S1024x128 .bf16) (x11 : Vec Ideal S128x1024 .bf16) (t r q d : Nat)
    (ht : t < 4) (hq : q < 256) :
    outN x9 x10 x11 t r q d = outS (fun i d => g3 x9 r d i) (fun key d => g2 x10 key d) (fun key d => g2 x11 d key) (256 * t + q) d := by
  have hs : scoreN x9 x10 t r q = scoreS (fun i d => g3 x9 r d i) (fun key d => g2 x10 key d) (256 * t + q) := rfl
  unfold outN outS
  rw [hs]
  generalize hS : scoreS (fun i d => g3 x9 r d i) (fun key d => g2 x10 key d) (256 * t + q) = s
  have hb : ∀ k, 256 * (t + 1) ≤ k → k < 1024 → s k = ⊥ := fun k hk _ => by
    rw [← hS]; unfold scoreS; rw [if_neg (by omega)]
  obtain ⟨h1, h2⟩ := W_extend (N := 256 * (t + 1)) (N' := 1024) (s := s) (by omega) hb
  have h3 : ∀ k < 256 * (t + 1), colPt (8 * (t + 1)) s (bmS s) k = W 1024 s k := fun k hk => by
    rw [h1, colPt_eq (isMax_bmS _ s) (by omega), show 32 * (8 * (t + 1)) = 256 * (t + 1) by ring]
  rw [Finset.sum_range (fun k => (g2 x11 d k : EReal) * W 1024 s k) |>.symm,
    (Finset.sum_congr rfl fun (m : Fin (256 * (t + 1))) _ => congrArg ((g2 x11 d m : EReal) * ·) (h3 m m.isLt) :
      (∑ m : Fin (256 * (t + 1)), (g2 x11 d m : EReal) * colPt (8 * (t + 1)) s (bmS s) m) = _),
    Finset.sum_range (fun k => (g2 x11 d k : EReal) * W 1024 s k) |>.symm]
  refine Finset.sum_subset (fun k hk => Finset.mem_range.2 (by have := Finset.mem_range.1 hk; omega)) fun k hk hk' => ?_
  rw [h2 k (by have := Finset.mem_range.not.1 hk'; omega) (Finset.mem_range.1 hk), mul_zero]

/-- The attention of the six arguments: head `j / 128` reads the keys and values of group `j / 384`. -/
def T (A0 : Vec Ideal S2x1024x24x128 .fp8e4m3) (A1 : Vec Ideal S2x1024x24x4 .i8) (A2 : Vec Ideal S2x1024x8x128 .fp8e4m3)
    (A3 : Vec Ideal S2x1024x8x4 .i8) (A4 : Vec Ideal S2x1024x8x128 .fp8e4m3) (A5 : Vec Ideal S2x32x8x128 .i8) (b i j : Nat) : EReal :=
  outS (fun i d => (g4 A0 b i (j / 128) d : EReal) * pw ((g4 A1 b i (j / 128) (d / 32) : BitVec 8).zeroExtend 32))
    (fun key d => (g4 A2 b key (j / 384) d : EReal) * pw ((g4 A3 b key (j / 384) (d / 32) : BitVec 8).zeroExtend 32))
    (fun key d => (g4 A4 b key (j / 384) d : EReal) * pw ((g4 A5 b (key / 32) (j / 384) d : BitVec 8).zeroExtend 32)) i (j % 128)

end Cert.KernelIdeal

end
-- ==== Proof.KFin1.lean ====
/- The kernel's windows and host operations at coordinates. -/
module

public import proofs.«01_k».proof.Proof.KRun
public import proofs.«01_k».proof.Proof.Spec4
public import Idealize.ShloMosaic.Lib.Pipeline.ValueKit

@[expose] public section

set_option maxRecDepth 16384

noncomputable section

namespace Cert.KernelIdeal

open Idealize.ShloMosaic Idealize.ShloMosaic.TcCoe Idealize.SL.Sem
open Gen

variable (m : (ℓ : Loc nD τ sig) → Buf (Elt Ideal) ℓ)

/-- The batch and the group of a grid point. -/
def gb (t : Fin cfg0.N) : Nat := (grid0.coords t 0).val
/-- The second grid coordinate of a point: the key head. -/
def gg (t : Fin cfg0.N) : Nat := (grid0.coords t 1).val

/-- The first grid coordinate is in range. -/
theorem gb_lt (t : Fin cfg0.N) : gb t < 2 := (grid0.coords t 0).isLt
/-- The second grid coordinate is in range. -/
theorem gg_lt (t : Fin cfg0.N) : gg t < 8 := (grid0.coords t 1).isLt

/-- The block of the array that a grid point takes, by its coordinates. -/
theorem ind0 : ∀ t : Fin cfg0.N, win0_0.index t = ![(grid0.coords t 0).val, (grid0.coords t 1).val, 0, 0] := (by decide +kernel : ∀ t : Fin grid0.N, _)
/-- The block of the array that a grid point takes, by its coordinates. -/
theorem ind1 : ∀ t : Fin cfg0.N, win0_1.index t = ![(grid0.coords t 0).val, (grid0.coords t 1).val, 0, 0] := (by decide +kernel : ∀ t : Fin grid0.N, _)
/-- The block of the array that a grid point takes, by its coordinates. -/
theorem ind2 : ∀ t : Fin cfg0.N, win0_2.index t = ![(grid0.coords t 0).val, (grid0.coords t 1).val, 0, 0] := (by decide +kernel : ∀ t : Fin grid0.N, _)
/-- The block of the array that a grid point takes, by its coordinates. -/
theorem ind3 : ∀ t : Fin cfg0.N, win0_3.index t = ![(grid0.coords t 0).val, (grid0.coords t 1).val, 0, 0] := (by decide +kernel : ∀ t : Fin grid0.N, _)
/-- The block of the array that a grid point takes, by its coordinates. -/
theorem ind4 : ∀ t : Fin cfg0.N, win0_4.index t = ![(grid0.coords t 0).val, (grid0.coords t 1).val, 0, 0] := (by decide +kernel : ∀ t : Fin grid0.N, _)
/-- The block of the array that a grid point takes, by its coordinates. -/
theorem ind5 : ∀ t : Fin cfg0.N, win0_5.index t = ![(grid0.coords t 0).val, (grid0.coords t 1).val, 0, 0] := (by decide +kernel : ∀ t : Fin grid0.N, _)
/-- The block of the array that a grid point takes, by its coordinates. -/
theorem ind6 : ∀ t : Fin cfg0.N, win0_6.index t = ![(grid0.coords t 0).val, 0, (grid0.coords t 1).val] := (by decide +kernel : ∀ t : Fin grid0.N, _)

/-- Argument 0 as the region reads it. -/
theorem V0 (c : Dev nD) (b : Fin 2) (h : Fin 24) (i : Fin 1024) (d : Fin 128) :
    V m c main_v0 (ix4 b h i d) = m ((c : Thread nD τ).loc main_arg0) (ix4 b i h d) := by
  have e : V m c main_v0 = transpose S2x24x1024x128 [0, 2, 1, 3] (m ((c : Thread nD τ).loc main_arg0)) transposes_S2x1024x24x128_S2x24x1024x128_0_2_1_3 := by
    unfold V; after_results
  rw [e]
  pointwise []

/-- Window 0's block. -/
theorem blk0 (c : Dev nD) (t : Fin cfg0.N) (r : Fin 3) (i : Fin 1024) (d : Fin 128) :
    iblk m c 0 t (ix4 0 r i d) = V m c main_v0 (ix4 ⟨gb t, gb_lt t⟩ ⟨gg t * 3 + r.val, by have := gg_lt t; omega⟩ i d) := by
  blk_simp [iblk]
  refine congrArg _ ?_
  blk_ext [ind0] <;> rfl

/-- The entry of the array that this position of the window holds. -/
theorem in0 (c : Dev nD) (t : Fin cfg0.N) {r i d : Nat} (hr : r < 3) (hi : i < 1024) (hd : d < 128) :
    g4 (p := 1) (q := 3) (r := 1024) (s := 128) (iblk m c 0 t) 0 r i d =
      g4 (p := 2) (q := 1024) (r := 24) (s := 128) (m ((c : Thread nD τ).loc main_arg0)) (gb t) i (gg t * 3 + r) d := by

  exact (g4_ix (p := 1) (q := 3) (r := 1024) (s := 128) (iblk m c 0 t) 0 ⟨r, hr⟩ ⟨i, hi⟩ ⟨d, hd⟩).symm.trans
    ((blk0 m c t ⟨r, hr⟩ ⟨i, hi⟩ ⟨d, hd⟩).trans ((V0 m c _ _ _ _).trans (g4_ix (p := 2) (q := 1024) (r := 24) (s := 128) (m ((c : Thread nD τ).loc main_arg0)) _ _ _ _)))

/-- Argument 1 as the region reads it. -/
theorem V1 (c : Dev nD) (b : Fin 2) (h : Fin 24) (d : Fin 4) (i : Fin 1024) :
    V m c main_v3 (ix4 b h d i) = m ((c : Thread nD τ).loc main_arg1) (ix4 b i h d) := by
  have e : V m c main_v3 = transpose S2x24x4x1024 [0, 2, 3, 1] (m ((c : Thread nD τ).loc main_arg1)) transposes_S2x1024x24x4_S2x24x4x1024_0_2_3_1 := by
    unfold V; after_results
  rw [e]
  pointwise []

/-- Window 1's block. -/
theorem blk1 (c : Dev nD) (t : Fin cfg0.N) (r : Fin 3) (d : Fin 4) (i : Fin 1024) :
    iblk m c 1 t (ix4 0 r d i) = V m c main_v3 (ix4 ⟨gb t, gb_lt t⟩ ⟨gg t * 3 + r.val, by have := gg_lt t; omega⟩ d i) := by
  blk_simp [iblk]
  refine congrArg _ ?_
  blk_ext [ind1] <;> rfl

/-- The entry of the array that this position of the window holds. -/
theorem in1 (c : Dev nD) (t : Fin cfg0.N) {r i d : Nat} (hr : r < 3) (hi : i < 1024) (hd : d < 4) :
    g4 (p := 1) (q := 3) (r := 4) (s := 1024) (iblk m c 1 t) 0 r d i =
      g4 (p := 2) (q := 1024) (r := 24) (s := 4) (m ((c : Thread nD τ).loc main_arg1)) (gb t) i (gg t * 3 + r) d := by

  exact (g4_ix (p := 1) (q := 3) (r := 4) (s := 1024) (iblk m c 1 t) 0 ⟨r, hr⟩ ⟨d, hd⟩ ⟨i, hi⟩).symm.trans
    ((blk1 m c t ⟨r, hr⟩ ⟨d, hd⟩ ⟨i, hi⟩).trans ((V1 m c _ _ _ _).trans (g4_ix (p := 2) (q := 1024) (r := 24) (s := 4) (m ((c : Thread nD τ).loc main_arg1)) _ _ _ _)))

/-- Argument 2 as the region reads it. -/
theorem V2 (c : Dev nD) (b : Fin 2) (h : Fin 8) (i : Fin 1024) (d : Fin 128) :
    V m c main_v1 (ix4 b h i d) = m ((c : Thread nD τ).loc main_arg2) (ix4 b i h d) := by
  have e : V m c main_v1 = transpose S2x8x1024x128 [0, 2, 1, 3] (m ((c : Thread nD τ).loc main_arg2)) transposes_S2x1024x8x128_S2x8x1024x128_0_2_1_3 := by
    unfold V; after_results
  rw [e]
  pointwise []

/-- Window 2's block. -/
theorem blk2 (c : Dev nD) (t : Fin cfg0.N) (i : Fin 1024) (d : Fin 128) :
    iblk m c 2 t (ix4 0 0 i d) = V m c main_v1 (ix4 ⟨gb t, gb_lt t⟩ ⟨gg t, by have := gg_lt t; omega⟩ i d) := by
  blk_simp [iblk]
  refine congrArg _ ?_
  blk_ext [ind2] <;> rfl

/-- The entry of the array that this position of the window holds. -/
theorem in2 (c : Dev nD) (t : Fin cfg0.N) {r i d : Nat} (hr : r = 0) (hi : i < 1024) (hd : d < 128) :
    g4 (p := 1) (q := 1) (r := 1024) (s := 128) (iblk m c 2 t) 0 r i d =
      g4 (p := 2) (q := 1024) (r := 8) (s := 128) (m ((c : Thread nD τ).loc main_arg2)) (gb t) i (gg t) d := by
  subst hr
  exact (g4_ix (p := 1) (q := 1) (r := 1024) (s := 128) (iblk m c 2 t) 0 0 ⟨i, hi⟩ ⟨d, hd⟩).symm.trans
    ((blk2 m c t ⟨i, hi⟩ ⟨d, hd⟩).trans ((V2 m c _ _ _ _).trans (g4_ix (p := 2) (q := 1024) (r := 8) (s := 128) (m ((c : Thread nD τ).loc main_arg2)) _ _ _ _)))

/-- Argument 3 as the region reads it. -/
theorem V3 (c : Dev nD) (b : Fin 2) (h : Fin 8) (d : Fin 4) (i : Fin 1024) :
    V m c main_v4 (ix4 b h d i) = m ((c : Thread nD τ).loc main_arg3) (ix4 b i h d) := by
  have e : V m c main_v4 = transpose S2x8x4x1024 [0, 2, 3, 1] (m ((c : Thread nD τ).loc main_arg3)) transposes_S2x1024x8x4_S2x8x4x1024_0_2_3_1 := by
    unfold V; after_results
  rw [e]
  pointwise []

/-- Window 3's block. -/
theorem blk3 (c : Dev nD) (t : Fin cfg0.N) (d : Fin 4) (i : Fin 1024) :
    iblk m c 3 t (ix4 0 0 d i) = V m c main_v4 (ix4 ⟨gb t, gb_lt t⟩ ⟨gg t, by have := gg_lt t; omega⟩ d i) := by
  blk_simp [iblk]
  refine congrArg _ ?_
  blk_ext [ind3] <;> rfl

/-- The entry of the array that this position of the window holds. -/
theorem in3 (c : Dev nD) (t : Fin cfg0.N) {r i d : Nat} (hr : r = 0) (hi : i < 1024) (hd : d < 4) :
    g4 (p := 1) (q := 1) (r := 4) (s := 1024) (iblk m c 3 t) 0 r d i =
      g4 (p := 2) (q := 1024) (r := 8) (s := 4) (m ((c : Thread nD τ).loc main_arg3)) (gb t) i (gg t) d := by
  subst hr
  exact (g4_ix (p := 1) (q := 1) (r := 4) (s := 1024) (iblk m c 3 t) 0 0 ⟨d, hd⟩ ⟨i, hi⟩).symm.trans
    ((blk3 m c t ⟨d, hd⟩ ⟨i, hi⟩).trans ((V3 m c _ _ _ _).trans (g4_ix (p := 2) (q := 1024) (r := 8) (s := 4) (m ((c : Thread nD τ).loc main_arg3)) _ _ _ _)))

/-- Argument 4 as the region reads it. -/
theorem V4 (c : Dev nD) (b : Fin 2) (h : Fin 8) (i : Fin 1024) (d : Fin 128) :
    V m c main_v2 (ix4 b h i d) = m ((c : Thread nD τ).loc main_arg4) (ix4 b i h d) := by
  have e : V m c main_v2 = transpose S2x8x1024x128 [0, 2, 1, 3] (m ((c : Thread nD τ).loc main_arg4)) transposes_S2x1024x8x128_S2x8x1024x128_0_2_1_3 := by
    unfold V; after_results
  rw [e]
  pointwise []

/-- Window 4's block. -/
theorem blk4 (c : Dev nD) (t : Fin cfg0.N) (i : Fin 1024) (d : Fin 128) :
    iblk m c 4 t (ix4 0 0 i d) = V m c main_v2 (ix4 ⟨gb t, gb_lt t⟩ ⟨gg t, by have := gg_lt t; omega⟩ i d) := by
  blk_simp [iblk]
  refine congrArg _ ?_
  blk_ext [ind4] <;> rfl

/-- The entry of the array that this position of the window holds. -/
theorem in4 (c : Dev nD) (t : Fin cfg0.N) {r i d : Nat} (hr : r = 0) (hi : i < 1024) (hd : d < 128) :
    g4 (p := 1) (q := 1) (r := 1024) (s := 128) (iblk m c 4 t) 0 r i d =
      g4 (p := 2) (q := 1024) (r := 8) (s := 128) (m ((c : Thread nD τ).loc main_arg4)) (gb t) i (gg t) d := by
  subst hr
  exact (g4_ix (p := 1) (q := 1) (r := 1024) (s := 128) (iblk m c 4 t) 0 0 ⟨i, hi⟩ ⟨d, hd⟩).symm.trans
    ((blk4 m c t ⟨i, hi⟩ ⟨d, hd⟩).trans ((V4 m c _ _ _ _).trans (g4_ix (p := 2) (q := 1024) (r := 8) (s := 128) (m ((c : Thread nD τ).loc main_arg4)) _ _ _ _)))

/-- Argument 5 as the region reads it. -/
theorem V5 (c : Dev nD) (b : Fin 2) (h : Fin 8) (i : Fin 32) (d : Fin 128) :
    V m c main_v5 (ix4 b h i d) = m ((c : Thread nD τ).loc main_arg5) (ix4 b i h d) := by
  have e : V m c main_v5 = transpose S2x8x32x128 [0, 2, 1, 3] (m ((c : Thread nD τ).loc main_arg5)) transposes_S2x32x8x128_S2x8x32x128_0_2_1_3 := by
    unfold V; after_results
  rw [e]
  pointwise []

/-- Window 5's block. -/
theorem blk5 (c : Dev nD) (t : Fin cfg0.N) (i : Fin 32) (d : Fin 128) :
    iblk m c 5 t (ix4 0 0 i d) = V m c main_v5 (ix4 ⟨gb t, gb_lt t⟩ ⟨gg t, by have := gg_lt t; omega⟩ i d) := by
  blk_simp [iblk]
  refine congrArg _ ?_
  blk_ext [ind5] <;> rfl

/-- The entry of the array that this position of the window holds. -/
theorem in5 (c : Dev nD) (t : Fin cfg0.N) {r i d : Nat} (hr : r = 0) (hi : i < 32) (hd : d < 128) :
    g4 (p := 1) (q := 1) (r := 32) (s := 128) (iblk m c 5 t) 0 r i d =
      g4 (p := 2) (q := 32) (r := 8) (s := 128) (m ((c : Thread nD τ).loc main_arg5)) (gb t) i (gg t) d := by
  subst hr
  exact (g4_ix (p := 1) (q := 1) (r := 32) (s := 128) (iblk m c 5 t) 0 0 ⟨i, hi⟩ ⟨d, hd⟩).symm.trans
    ((blk5 m c t ⟨i, hi⟩ ⟨d, hd⟩).trans ((V5 m c _ _ _ _).trans (g4_ix (p := 2) (q := 32) (r := 8) (s := 128) (m ((c : Thread nD τ).loc main_arg5)) _ _ _ _)))

/-- The kept queries, keys and values at naturals. -/
theorem q9_at (x2 : Vec Ideal S1x3x1024x128 .fp8e4m3) (x3 : Vec Ideal S1x3x4x1024 .i8) {r d i : Nat} (hr : r < 3) (hd : d < 128) (hi : i < 1024) :
    g3 (q9 x2 x3) r d i = (g4 x2 0 r i d : EReal) * pw ((g4 x3 0 r (d / 32) i : BitVec 8).zeroExtend 32) :=
  (g3_ix (q9 x2 x3) ⟨r, hr⟩ ⟨d, hd⟩ ⟨i, hi⟩).symm

/-- An entry of the keys the body works with: its code times its block's scale. -/
theorem k10_at (x4 : Vec Ideal S1x1x1024x128 .fp8e4m3) (x5 : Vec Ideal S1x1x4x1024 .i8) {k d : Nat} (hk : k < 1024) (hd : d < 128) :
    g2 (k10 x4 x5) k d = (g4 x4 0 0 k d : EReal) * pw ((g4 x5 0 0 (d / 32) k : BitVec 8).zeroExtend 32) :=
  (g2_ix (k10 x4 x5) ⟨k, hk⟩ ⟨d, hd⟩).symm

/-- An entry of the values the body works with: its code times its block's scale. -/
theorem v11_at (x6 : Vec Ideal S1x1x1024x128 .fp8e4m3) (x7 : Vec Ideal S1x1x32x128 .i8) {k d : Nat} (hk : k < 1024) (hd : d < 128) :
    g2 (v11 x6 x7) d k = (g4 x6 0 0 k d : EReal) * pw ((g4 x7 0 0 (k / 32) d : BitVec 8).zeroExtend 32) :=
  (g2_ix (v11 x6 x7) ⟨d, hd⟩ ⟨k, hk⟩).symm

/-- The kernel's result is the attention of its arguments. -/
theorem final (c : Dev nD) : (dats m 0 c).arrAt 6 cfg0.N = fun j : S2x1024x3072.Idx =>
    T (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (j 0).val (j 1).val (j 2).val := by
  refine (dats m 0 c).arrAt_eq_of_covers 6 _ (by decide +kernel) fun t hf y => ?_
  blk_simp [ind6]
  rw [after_6]
  generalize hy1 : (y 1).val = y1
  generalize hy2 : (y 2).val = y2
  have h1 : y1 < 1024 := hy1 ▸ (y 1).isLt
  have h2 : y2 < 384 := hy2 ▸ (y 2).isLt
  unfold oAt out8
  rw [hy1, hy2, outN_eq _ _ _ _ _ _ _ (by omega) (by omega), show 256 * (y1 / 256) + y1 % 256 = y1 by omega]
  have j1 : (gg t * 384 + y2) / 128 = gg t * 3 + y2 / 128 := by omega
  have j2 : (gg t * 384 + y2) / 384 = gg t := by omega
  have j3 : (gg t * 384 + y2) % 128 = y2 % 128 := by omega
  change _ = T _ _ _ _ _ _ (gb t) y1 (gg t * 384 + y2)
  unfold T
  rw [j1, j2, j3]
  refine outS_congr (fun d hd => ?_) (fun k hk d hd => ?_) (fun k hk => ?_)
  · rw [q9_at _ _ (by omega) hd h1, in0 m c t (by omega) h1 hd, in1 m c t (by omega) h1 (by omega)]
  · rw [k10_at _ _ hk hd, in2 m c t rfl hk hd, in3 m c t rfl hk (by omega)]
  · rw [v11_at _ _ hk (by omega), in4 m c t rfl hk (by omega), in5 m c t rfl (by omega) (by omega)]

end Cert.KernelIdeal

end
-- ==== Proof.Ref1.lean ====
/- The reference cut into stages: masked scores, row maximum, exponentials, row sum, probabilities, block exponents. -/
module

public import proofs.«01_k».proof.Proof.Gen.ReferenceIdeal.Value
public import proofs.«01_k».proof.Proof.Spec3
public import Idealize.ShloMosaic.Lib.Pointwise
public import Idealize.ShloMosaic.Lib.MatmulPlain

@[expose] public section

noncomputable section

namespace Cert.ReferenceIdeal.Elt

open Cert.ReferenceIdeal Cert.ReferenceIdeal.Gen Idealize.ShloMosaic Idealize.SL.Sem

/-- A block scale: two to the code less 127. -/
def sc (b : BitVec 8) : EReal := Ideal.exp2 ((((b.zeroExtend 32).toInt : ℝ) : EReal) - Ideal.ofBits .f32 0x42FE0000#32)

/-- The masked scores. -/
def sM (v15 : FVec Ideal S16x3072x128 .bf16) (v31 : FVec Ideal S16x1024x128 .bf16) : FVec Ideal S16x3072x1024 .f32 :=
  select (cmpi .sle (shapeCast S16x3072x1024 (iota .tc S16x3x1024x1024 32 [3] iota_S16x3x1024x1024_d3_w32) shapeCasts_S16x3x1024x1024_S16x3072x1024)
      (shapeCast S16x3072x1024 (iota .tc S16x3x1024x1024 32 [2] iota_S16x3x1024x1024_d2_w32) shapeCasts_S16x3x1024x1024_S16x3072x1024))
    (mulf (matmul dot_S16x3072x128_S16x1024x128_S16x3072x1024_2_2_1_1_0_0 none v15 v31 (constant S16x3072x1024 .f32 0x00000000#32))
      (broadcast S16x3072x1024 (Named.named κ "scale" 0x3DB504F3#32)))
    (broadcast S16x3072x1024 (Scalar.ofBits .f32 0xFF800000#32))

/-- Each row's maximum. -/
def sX (v57 : FVec Ideal S16x3072x1024 .f32) : FVec Ideal S16x3072 .f32 :=
  multiReduction .maximumf [2] S16x3072 v57 0xFF800000#32 reduces_S16x3072x1024_S16x3072 (.inl rfl) rfl

/-- The exponentials of the scores less the row's maximum. -/
def sY (v57 : FVec Ideal S16x3072x1024 .f32) (v58 : FVec Ideal S16x3072 .f32) : FVec Ideal S16x3072x1024 .f32 :=
  exp (subf v57 (broadcastTo S16x3072x1024 (shapeCast S16x3072x1 (maximumf (broadcast S16x3072 (Scalar.ofBits .f32 0xFF800000#32)) v58)
    shapeCasts_S16x3072_S16x3072x1) broadcasts_S16x3072x1_S16x3072x1024))

/-- Each row's sum. -/
def sZ (v64 : FVec Ideal S16x3072x1024 .f32) : FVec Ideal S16x3072 .f32 :=
  multiReduction .add [2] S16x3072 v64 0x00000000#32 reduces_S16x3072x1024_S16x3072 (.inl rfl) rfl

/-- The probabilities, in blocks of 32. -/
def sP (v64 : FVec Ideal S16x3072x1024 .f32) (v65 : FVec Ideal S16x3072 .f32) : FVec Ideal S16x3072x32x32 .f32 :=
  shapeCast S16x3072x32x32 (divf v64 (broadcastTo S16x3072x1024 (shapeCast S16x3072x1 v65 shapeCasts_S16x3072_S16x3072x1)
    broadcasts_S16x3072x1_S16x3072x1024)) shapeCasts_S16x3072x1024_S16x3072x32x32

/-- Each block's maximum. -/
def eA (p : FVec Ideal S16x3072x32x32 .f32) : FVec Ideal S16x3072x32 .f32 :=
  multiReduction .maximumf [3] S16x3072x32 p 0xFF800000#32 reduces_S16x3072x32x32_S16x3072x32 (.inl rfl) rfl

/-- Each block's exponent. -/
def eB (v70 : FVec Ideal S16x3072x32 .f32) : FVec Ideal S16x3072x32 .f32 :=
  select (cmpf .oeq v70 (broadcast S16x3072x32 (Scalar.ofBits .f32 0x00000000#32)))
    (broadcast S16x3072x32 (Scalar.ofBits .f32 0x00000000#32))
    (addf (floor (divf (log (mulf v70 (broadcast S16x3072x32 (Scalar.ofBits .f32 0x37924925#32))))
      (broadcast S16x3072x32 (Scalar.log (Scalar.ofBits .f32 0x40000000#32))))) (broadcast S16x3072x32 (Scalar.ofBits .f32 0x3F800000#32)))

/-- Its negative. -/
def eC (v83 : FVec Ideal S16x3072x32 .f32) : FVec Ideal S16x3072x32 .f32 :=
  subf (broadcast S16x3072x32 (Scalar.ofBits .f32 0x00000000#32)) v83

/-- The payload is the composition of its stages. -/
theorem pay7_eq (v15 : FVec Ideal S16x3072x128 .bf16) (v31 : FVec Ideal S16x1024x128 .bf16) :
    k0_pay7 v15 v31 = sP (sY (sM v15 v31) (sX (sM v15 v31))) (sZ (sY (sM v15 v31) (sX (sM v15 v31)))) := rfl

/-- The payload is the composition of its stages. -/
theorem pay8_eq (v15 : FVec Ideal S16x3072x128 .bf16) (v31 : FVec Ideal S16x1024x128 .bf16) :
    k0_pay8 v15 v31 = eB (eA (k0_pay7 v15 v31)) := rfl

/-- The payload is the composition of its stages. -/
theorem pay9_eq (v15 : FVec Ideal S16x3072x128 .bf16) (v31 : FVec Ideal S16x1024x128 .bf16) :
    k0_pay9 v15 v31 = eC (k0_pay8 v15 v31) := rfl

end Cert.ReferenceIdeal.Elt

end
-- ==== Proof.Ref2.lean ====
/- The reference's dequantised queries, keys and values. -/
module

public import proofs.«01_k».proof.Proof.Ref1

@[expose] public section

noncomputable section

namespace Cert.ReferenceIdeal.Elt

open Cert.ReferenceIdeal Cert.ReferenceIdeal.Gen Idealize.ShloMosaic Idealize.SL.Sem

/-- The value of `q`, entry by entry. -/
theorem q_apply (v0 : Vec Ideal S16x3072x128 .fp8e4m3) (v4 : Vec Ideal S16x3072x4 .i8) (n : Fin 16) (i : Fin 3072) (d : Fin 128) :
    k0_pay2 v0 v4 (ix3 n i d) = (v0 (ix3 n i d) : EReal) * sc (v4 (ix3 n i ⟨d / 32, by omega⟩)) := by
  pointwise [k0_pay2]
  rfl

/-- The value of `k`, entry by entry. -/
theorem k_apply (v0 : Vec Ideal S16x1024x128 .fp8e4m3) (v4 : Vec Ideal S16x1024x4 .i8) (n : Fin 16) (i : Fin 1024) (d : Fin 128) :
    k0_pay3 v0 v4 (ix3 n i d) = (v0 (ix3 n i d) : EReal) * sc (v4 (ix3 n i ⟨d / 32, by omega⟩)) := by
  pointwise [k0_pay3]
  rfl

/-- The value of `v`, entry by entry. -/
theorem v_apply (v0 : Vec Ideal S16x1024x128 .fp8e4m3) (v4 : Vec Ideal S16x32x128 .i8) (n : Fin 16) (i : Fin 1024) (d : Fin 128) :
    k0_pay6 (k0_pay4 v0) (k0_pay5 v4) (ix3 n i d) = (v0 (ix3 n i d) : EReal) * sc (v4 (ix3 n ⟨i / 32, by omega⟩ d)) := by
  pointwise [k0_pay6, k0_pay4, k0_pay5]
  rfl

end Cert.ReferenceIdeal.Elt

end
-- ==== Proof.Ref3.lean ====
/- The reference's masked scores. -/
module

public import proofs.«01_k».proof.Proof.Ref1

@[expose] public section

noncomputable section

namespace Cert.ReferenceIdeal.Elt

open Cert.ReferenceIdeal Cert.ReferenceIdeal.Gen Idealize.ShloMosaic Idealize.SL.Sem

/-- The value of `sM`, entry by entry. -/
theorem sM_apply (v15 : FVec Ideal S16x3072x128 .bf16) (v31 : FVec Ideal S16x1024x128 .bf16) (n : Fin 16) (i : Fin 3072) (k : Fin 1024) :
    sM v15 v31 (ix3 n i k) = Scalar.select (IntOp.cmpi CmpIPredicate.sle (BitVec.ofNat 32 k.val) (BitVec.ofNat 32 (i.val % 1024)))
      ((∑ d : Fin 128, (v15 (ix3 n i d) : EReal) * (v31 (ix3 n k d) : EReal)) * Named.named (F := Ideal) (φ := .f32) κ "scale" 0x3DB504F3#32) (Ideal.ofBits .f32 0xFF800000#32) := by
  pointwise [sM]

end Cert.ReferenceIdeal.Elt

end
-- ==== Proof.Ref4.lean ====
/- The reference's reductions. -/
module

public import proofs.«01_k».proof.Proof.Ref1

@[expose] public section

noncomputable section

namespace Cert.ReferenceIdeal.Elt

open Cert.ReferenceIdeal Cert.ReferenceIdeal.Gen Idealize.ShloMosaic Idealize.SL.Sem

/-- A fold by maximum is a supremum. -/
theorem fold_sup {α : Type} (s : Finset α) (f : α → EReal) : s.fold max ⊥ f = s.sup f := rfl

/-- The constant that starts a maximum is minus infinity. -/
theorem ninf : Ideal.ofBits .f32 0xFF800000#32 = (⊥ : EReal) := by simp [Ideal.ofBits, Ideal.ieee]

/-- The value of `sX`, entry by entry. -/
theorem sX_apply (x : FVec Ideal S16x3072x1024 .f32) (n : Fin 16) (i : Fin 3072) :
    sX x (ix2 n i) = (Finset.univ : Finset (Fin 1024)).sup fun k => (x (ix3 n i k) : EReal) := by
  pointwise [sX]
  exact (congrArg (fun z : EReal => (Finset.univ : Finset (Fin 1024)).fold max z _) ninf).trans (fold_sup _ _)

/-- The value of `eA`, entry by entry. -/
theorem eA_apply (x : FVec Ideal S16x3072x32x32 .f32) (n : Fin 16) (i : Fin 3072) (j : Fin 32) :
    eA x (ix3 n i j) = (Finset.univ : Finset (Fin 32)).sup fun k => (x (ix4 n i j k) : EReal) := by
  pointwise [eA]
  exact (congrArg (fun z : EReal => (Finset.univ : Finset (Fin 32)).fold max z _) ninf).trans (fold_sup _ _)

/-- The value of `sZ`, entry by entry. -/
theorem sZ_apply (x : FVec Ideal S16x3072x1024 .f32) (n : Fin 16) (i : Fin 3072) :
    sZ x (ix2 n i) = ∑ k : Fin 1024, (x (ix3 n i k) : EReal) := by
  pointwise [sZ]

end Cert.ReferenceIdeal.Elt

end
-- ==== Proof.Ref5.lean ====
/- The reference's pointwise stages. -/
module

public import proofs.«01_k».proof.Proof.Ref1

@[expose] public section

noncomputable section

namespace Cert.ReferenceIdeal.Elt

open Cert.ReferenceIdeal Cert.ReferenceIdeal.Gen Idealize.ShloMosaic Idealize.SL.Sem

/-- The value of `sY`, entry by entry. -/
theorem sY_apply (x : FVec Ideal S16x3072x1024 .f32) (a : FVec Ideal S16x3072 .f32) (n : Fin 16) (i : Fin 3072) (k : Fin 1024) :
    sY x a (ix3 n i k) = Ideal.exp ((x (ix3 n i k) : EReal) - max (Ideal.ofBits .f32 0xFF800000#32) (a (ix2 n i) : EReal)) := by
  pointwise [sY]

/-- The value of `sP`, entry by entry. -/
theorem sP_apply (x : FVec Ideal S16x3072x1024 .f32) (a : FVec Ideal S16x3072 .f32) (n : Fin 16) (i : Fin 3072) (j l : Fin 32) :
    sP x a (ix4 n i j l) = Ideal.div (x (ix3 n i ⟨j.val * 32 + l.val, by omega⟩)) (a (ix2 n i)) := by
  pointwise [sP]

end Cert.ReferenceIdeal.Elt

end
-- ==== Proof.Ref6.lean ====
/- The reference's block exponents. -/
module

public import proofs.«01_k».proof.Proof.Ref1

@[expose] public section

noncomputable section

namespace Cert.ReferenceIdeal.Elt

open Cert.ReferenceIdeal Cert.ReferenceIdeal.Gen Idealize.ShloMosaic Idealize.SL.Sem

/-- The value of `eB`, entry by entry. -/
theorem eB_apply (a : FVec Ideal S16x3072x32 .f32) (n : Fin 16) (i : Fin 3072) (j : Fin 32) :
    eB a (ix3 n i j) = Cert.KernelIdeal.rE (a (ix3 n i j)) := by
  pointwise [eB]
  rfl

/-- The value of `eC`, entry by entry. -/
theorem eC_apply (a : FVec Ideal S16x3072x32 .f32) (n : Fin 16) (i : Fin 3072) (j : Fin 32) :
    eC a (ix3 n i j) = (0 : EReal) - a (ix3 n i j) := by
  pointwise [eC]

end Cert.ReferenceIdeal.Elt

end
-- ==== Proof.Ref7.lean ====
/- The reference's result from its probabilities and exponents. -/
module

public import proofs.«01_k».proof.Proof.Ref1

@[expose] public section

noncomputable section

namespace Cert.ReferenceIdeal.Elt

open Cert.ReferenceIdeal Cert.ReferenceIdeal.Gen Idealize.ShloMosaic Idealize.SL.Sem

/-- The value of `o`, entry by entry. -/
theorem o_apply (v47 : FVec Ideal S16x1024x128 .bf16) (v69 : FVec Ideal S16x3072x32x32 .f32) (v83 v85 : FVec Ideal S16x3072x32 .f32)
    (b : Fin 2) (i : Fin 1024) (j : Fin 3072) :
    k0_pay1 v47 v69 v83 v85 (ix3 b i j) =
      ∑ k : Fin 1024, (min (Ideal.ofBits .f32 0x47600000#32) (max (Ideal.ofBits .f32 0xC7600000#32)
        ((v69 (ix4 ⟨b.val * 8 + j.val / 384, by omega⟩ ⟨j.val / 128 % 3 * 1024 + i.val, by omega⟩ ⟨k.val / 32, by omega⟩ ⟨k.val % 32, by omega⟩) : EReal) *
          Ideal.exp2 (v85 (ix3 ⟨b.val * 8 + j.val / 384, by omega⟩ ⟨j.val / 128 % 3 * 1024 + i.val, by omega⟩ ⟨k.val / 32, by omega⟩)))) *
          Ideal.exp2 (v83 (ix3 ⟨b.val * 8 + j.val / 384, by omega⟩ ⟨j.val / 128 % 3 * 1024 + i.val, by omega⟩ ⟨k.val / 32, by omega⟩))) *
        (v47 (ix3 ⟨b.val * 8 + j.val / 384, by omega⟩ k ⟨j.val % 128, by omega⟩) : EReal) := by
  pointwise [k0_pay1]
  rfl

end Cert.ReferenceIdeal.Elt

end
-- ==== Proof.Ref8.lean ====
/- The reference's result is the attention of its dequantised queries, keys and values. -/
module

public import proofs.«01_k».proof.Proof.Ref2
public import proofs.«01_k».proof.Proof.Ref3
public import proofs.«01_k».proof.Proof.Ref4
public import proofs.«01_k».proof.Proof.Ref5
public import proofs.«01_k».proof.Proof.Ref6
public import proofs.«01_k».proof.Proof.Ref7
public import proofs.«01_k».proof.Proof.Spec4

@[expose] public section

noncomputable section

namespace Cert.ReferenceIdeal.Elt

open Cert.ReferenceIdeal Cert.ReferenceIdeal.Gen Idealize.ShloMosaic Idealize.SL.Sem
open Cert.KernelIdeal (scoreS outS W rP rE rPt rPt_eq sr sr_pos g3 g3_ix)

/-- The reference's named scale. -/
theorem scale_eq : Named.named (F := Ideal) (φ := .f32) κ "scale" 0x3DB504F3#32 = (sr : EReal) :=
  IdealRules.named_const.ideal_named_scalar κ "scale" _ _ rfl

variable (v15 : FVec Ideal S16x3072x128 .bf16) (v31 : FVec Ideal S16x1024x128 .bf16) (n : Fin 16)

/-- The scores of the query in row `r * 1024 + i`. -/
def sS (r i : Nat) : Nat → EReal :=
  scoreS (fun i d => g3 v15 n.val (r * 1024 + i) d) (fun k d => g3 v31 n.val k d) i

/-- What `sM` is in terms of the specification. -/
theorem sM_eq (r i : Nat) (hr : r < 3) (hi : i < 1024) (k : Fin 1024) :
    sM v15 v31 (ix3 n ⟨r * 1024 + i, by omega⟩ k) = sS v15 v31 n r i k.val * (sr : EReal) := by
  rw [sM_apply, scale_eq, ninf]
  have hk := k.isLt
  have e0 : (r * 1024 + i) % 1024 = i := by omega
  have e : (BitVec.ofNat 32 k.val).sle (BitVec.ofNat 32 i) = decide (k.val ≤ i) := by
    have a : (BitVec.ofNat 32 k.val).toNat = k.val := by rw [BitVec.toNat_ofNat]; omega
    have b : (BitVec.ofNat 32 i).toNat = i := by rw [BitVec.toNat_ofNat]; omega
    rw [BitVec.sle_eq_decide, BitVec.toInt_eq_toNat_of_lt (by omega), BitVec.toInt_eq_toNat_of_lt (by omega), a, b]
    simp
  show Scalar.select (BitVec.ofBool ((BitVec.ofNat 32 k.val).sle (BitVec.ofNat 32 ((r * 1024 + i) % 1024)))) _ _ = _
  rw [e0, e]
  unfold sS scoreS
  by_cases h : k.val ≤ i
  · rw [if_pos h, decide_eq_true h]
    show (_ : EReal) * _ = _
    refine congrArg (· * (sr : EReal)) (Finset.sum_congr rfl fun d _ => ?_)
    rw [g3_ix v15, g3_ix v31, mul_comm]
  · rw [if_neg h, decide_eq_false h, EReal.bot_mul_coe_of_pos sr_pos]
    rfl

/-- A supremum over a range of naturals is one over the index type. -/
theorem sup_range (N : Nat) (f : Nat → EReal) : ((Finset.univ : Finset (Fin N)).sup fun k => f k.val) = (Finset.range N).sup f := by
  refine le_antisymm (Finset.sup_le fun k _ => Finset.le_sup (f := f) (Finset.mem_range.2 k.isLt)) (Finset.sup_le fun k hk => ?_)
  exact Finset.le_sup (f := fun k : Fin N => f k.val) (Finset.mem_univ (⟨k, Finset.mem_range.1 hk⟩ : Fin N))

/-- What `sX` is in terms of the specification. -/
theorem sX_eq (r i : Nat) (hr : r < 3) (hi : i < 1024) :
    sX (sM v15 v31) (ix2 n ⟨r * 1024 + i, by omega⟩) = (Finset.range 1024).sup fun k => sS v15 v31 n r i k * (sr : EReal) := by
  rw [sX_apply, ← sup_range]
  exact Finset.sup_congr rfl fun k _ => sM_eq v15 v31 n r i hr hi k

/-- What `sY` is in terms of the specification. -/
theorem sY_eq (r i : Nat) (hr : r < 3) (hi : i < 1024) (k : Fin 1024) :
    sY (sM v15 v31) (sX (sM v15 v31)) (ix3 n ⟨r * 1024 + i, by omega⟩ k) =
      Ideal.exp (sS v15 v31 n r i k * (sr : EReal) - (Finset.range 1024).sup fun k => sS v15 v31 n r i k * (sr : EReal)) := by
  rw [sY_apply, sX_eq v15 v31 n r i hr hi, sM_eq v15 v31 n r i hr hi, ninf, max_eq_right bot_le]

/-- The probabilities. -/
theorem p_eq (r i : Nat) (hr : r < 3) (hi : i < 1024) (j l : Fin 32) :
    k0_pay7 v15 v31 (ix4 n ⟨r * 1024 + i, by omega⟩ j l) = rP 1024 (fun k => sS v15 v31 n r i k * (sr : EReal)) (j.val * 32 + l.val) := by
  rw [pay7_eq, sP_apply, sZ_apply, sY_eq v15 v31 n r i hr hi]
  unfold rP
  rw [Finset.sum_range]
  exact congrArg _ (Finset.sum_congr rfl fun k _ => sY_eq v15 v31 n r i hr hi k)

/-- The block exponents. -/
theorem e_eq (r i : Nat) (hr : r < 3) (hi : i < 1024) (j : Fin 32) :
    k0_pay8 v15 v31 (ix3 n ⟨r * 1024 + i, by omega⟩ j) =
      rE ((Finset.univ : Finset (Fin 32)).sup fun l => rP 1024 (fun k => sS v15 v31 n r i k * (sr : EReal)) (j.val * 32 + l.val)) := by
  rw [pay8_eq, eB_apply, eA_apply]
  exact congrArg rE (Finset.sup_congr rfl fun l _ => p_eq v15 v31 n r i hr hi j l)

/-- The constant 57344 of the clip, as a real. -/
theorem c_pos : Ideal.ofBits .f32 0x47600000#32 = (57344 : EReal) := Cert.KernelIdeal.fmax_eq

/-- The constant -57344 of the clip, as a real. -/
theorem c_neg : Ideal.ofBits .f32 0xC7600000#32 = (-57344 : EReal) := by
  have e : Ideal.ofBits .f32 0xC7600000#32 = ((-57344 : ℝ) : EReal) := by
    simp [Ideal.ofBits, Ideal.ieee, -EReal.coe_mul]; norm_num
  rw [e, EReal.coe_neg]; rfl

/-- One quantised and rescaled probability is the attention's weight. -/
theorem w_eq (r i : Nat) (hr : r < 3) (hi : i < 1024) (k : Fin 1024) :
    (min (Ideal.ofBits .f32 0x47600000#32) (max (Ideal.ofBits .f32 0xC7600000#32)
      ((k0_pay7 v15 v31 (ix4 n ⟨r * 1024 + i, by omega⟩ ⟨k.val / 32, by omega⟩ ⟨k.val % 32, by omega⟩) : EReal) *
        Ideal.exp2 (k0_pay9 v15 v31 (ix3 n ⟨r * 1024 + i, by omega⟩ ⟨k.val / 32, by omega⟩)))) *
      Ideal.exp2 (k0_pay8 v15 v31 (ix3 n ⟨r * 1024 + i, by omega⟩ ⟨k.val / 32, by omega⟩))) = W 1024 (sS v15 v31 n r i) k.val := by
  rw [pay9_eq, eC_apply, e_eq v15 v31 n r i hr hi, p_eq v15 v31 n r i hr hi, c_pos, c_neg]
  have hk := k.isLt
  have e1 : k.val / 32 * 32 + k.val % 32 = k.val := by omega
  show min _ (max _ (rP 1024 _ (k.val / 32 * 32 + k.val % 32) * _)) * _ = _
  rw [e1]
  refine rPt_eq (N := 1024) (s := sS v15 v31 n r i) hk ?_ ?_
  · refine le_trans (le_of_eq ?_) (Finset.le_sup (f := fun l : Fin 32 => rP 1024 (fun k => sS v15 v31 n r i k * (sr : EReal)) (k.val / 32 * 32 + l.val))
      (Finset.mem_univ (⟨k.val % 32, by omega⟩ : Fin 32)))
    show _ = rP 1024 _ (k.val / 32 * 32 + k.val % 32)
    rw [e1]
  · obtain ⟨l, _, hl⟩ := Finset.exists_mem_eq_sup (Finset.univ : Finset (Fin 32)) ⟨0, Finset.mem_univ _⟩
      (fun l : Fin 32 => rP 1024 (fun k => sS v15 v31 n r i k * (sr : EReal)) (k.val / 32 * 32 + l.val))
    exact ⟨k.val / 32 * 32 + l.val, by have := l.isLt; omega, hl⟩

/-- The reference's result. -/
theorem ref_eq (v47 : FVec Ideal S16x1024x128 .bf16) (b : Fin 2) (i : Fin 1024) (j : Fin 3072) :
    k0_pay1 v47 (k0_pay7 v15 v31) (k0_pay8 v15 v31) (k0_pay9 v15 v31) (ix3 b i j) =
      outS (fun i d => g3 v15 (b.val * 8 + j.val / 384) (j.val / 128 % 3 * 1024 + i) d)
        (fun k d => g3 v31 (b.val * 8 + j.val / 384) k d) (fun k d => g3 v47 (b.val * 8 + j.val / 384) k d) i.val (j.val % 128) := by
  rw [o_apply]
  unfold outS
  refine Finset.sum_congr rfl fun k _ => ?_
  rw [w_eq v15 v31 ⟨b.val * 8 + j.val / 384, by omega⟩ (j.val / 128 % 3) i.val (by omega) i.isLt k, mul_comm, g3_ix v47]
  rfl

end Cert.ReferenceIdeal.Elt

end
-- ==== Proof.Pre.lean ====
/- The precondition read back: every block scale is a code from 1 to 254, and then a power of two. -/
module

public import proofs.«01_k».proof.Pre_scales_ok
public import proofs.«01_k».proof.Proof.Ref1
public import proofs.«01_k».proof.Proof.Spec1
public import Idealize.ShloMosaic.Lib.ReduceAll

@[expose] public section

noncomputable section

namespace Cert.Pre_scales_ok

open Idealize.ShloMosaic Facts

/-- A code from 1 to 254. -/
def Ok (b : BitVec 8) : Prop := 1 ≤ b.toNat ∧ b.toNat ≤ 254

/-- Both comparisons of one element. -/
theorem ok_of (b : BitVec 8) (h : IntOp.andi (IntOp.cmpi .uge b 1#8) (IntOp.cmpi .ule b 254#8) = 1#1) : Ok b := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.ule, decide_eq_true_eq, BitVec.toNat_ofNat] at h
  unfold Ok; omega

instance : Subsingleton S_.Idx := ⟨fun a b => funext fun i => i.elim0⟩

/-- The kernel's power of two is the reference's. -/
theorem sc_eq (b : BitVec 8) (h : Ok b) : Cert.ReferenceIdeal.Elt.sc b = Cert.KernelIdeal.pw (b.zeroExtend 32) := by
  have e : b.zeroExtend 32 = BitVec.ofNat 32 b.toNat := by apply BitVec.eq_of_toNat_eq; simp
  have c : Ideal.ofBits .f32 0x42FE0000#32 = ((127 : ℝ) : EReal) := by
    simp [Ideal.ofBits, Ideal.ieee, -EReal.coe_mul]; norm_num
  have t : (BitVec.ofNat 32 b.toNat).toInt = (b.toNat : ℤ) := by
    have := b.isLt
    rw [BitVec.toInt_eq_toNat_of_lt (by rw [BitVec.toNat_ofNat]; omega), BitVec.toNat_ofNat]; omega
  unfold Cert.ReferenceIdeal.Elt.sc
  rw [e, Cert.KernelIdeal.pw_ofNat _ h.1 h.2, c, t, ← EReal.coe_sub, Cert.KernelIdeal.exp2_coe]
  refine congrArg Real.toEReal ?_
  rw [← Real.rpow_intCast]; push_cast; rfl

variable [Facts]

/-- What the precondition says of each scale. -/
theorem fn_ok (a0 : FVec Ideal S2x1024x24x128 .fp8e4m3) (a1 : IVec S2x1024x24x4 8) (a2 : FVec Ideal S2x1024x8x128 .fp8e4m3)
    (a3 : IVec S2x1024x8x4 8) (a4 : FVec Ideal S2x1024x8x128 .fp8e4m3) (a5 : IVec S2x32x8x128 8) (y : S_.Idx)
    (h : fn (F := Ideal) a0 a1 a2 a3 a4 a5 y = 1#1) : (∀ i, Ok (a1 i)) ∧ (∀ i, Ok (a3 i)) ∧ (∀ i, Ok (a5 i)) := by
  unfold fn fn_part1 at h
  obtain ⟨h12, h3⟩ := IntOp.andi_eq_one.1 h
  obtain ⟨h1, h2⟩ := IntOp.andi_eq_one.1 h12
  exact ⟨fun i => ok_of _ (Host.reduce_andi_all _ _ _ _ y h1 i), fun i => ok_of _ (Host.reduce_andi_all _ _ _ _ y h2 i),
    fun i => ok_of _ (Host.reduce_andi_all _ _ _ _ y h3 i)⟩

end Cert.Pre_scales_ok

end
-- ==== Proof.RFin1.lean ====
/- The reference's result is the attention of its arguments. -/
module

public import proofs.«01_k».proof.Proof.Ref8
public import proofs.«01_k».proof.Proof.Pre
public import Idealize.ShloMosaic.Lib.Pipeline.ValueKit

@[expose] public section

set_option maxRecDepth 16384

noncomputable section

namespace Cert.ReferenceIdeal.Elt

open Cert.ReferenceIdeal Cert.ReferenceIdeal.Gen Idealize.ShloMosaic Idealize.ShloMosaic.TcCoe Idealize.SL.Sem

open Cert.KernelIdeal (T outS_congr g3 g4 g3_ix g4_ix)
open Cert.Pre_scales_ok (Ok sc_eq)

variable (m : (ℓ : Loc nD τ sig) → Buf (Elt Ideal) ℓ)

/-- Argument 0 as the region reads it. -/
theorem V0 (c : Dev nD) (n : Fin 16) (i : Fin 3072) (d : Fin 128) :
    V m c main_v1 (ix3 n i d) = m ((c : Thread nD τ).loc main_arg0)
      (ix4 ⟨n.val / 8, by omega⟩ ⟨i.val % 1024, by omega⟩ ⟨n.val % 8 * 3 + i.val / 1024, by omega⟩ d) := by
  have e : V m c main_v1 = shapeCast S16x3072x128 (transpose S2x24x1024x128 [0, 2, 1, 3] (m ((c : Thread nD τ).loc main_arg0)) transposes_S2x1024x24x128_S2x24x1024x128_0_2_1_3) shapeCasts_S2x24x1024x128_S16x3072x128 := by
    unfold V; after_results; rfl
  rw [e]
  pointwise []

/-- The block of the array that a grid point takes, by its coordinates. -/
theorem ind0 : ∀ t : Fin cfg0.N, win0_0.index t = ![0, 0, 0] := (by decide +kernel : ∀ t : Fin grid0.N, _)

/-- Window 0's block is the whole array. -/
theorem blk0 (c : Dev nD) (t : Fin cfg0.N) : iblk m c 0 t = V m c main_v1 := by
  funext x
  blk_simp [iblk]
  refine congrArg _ ?_
  blk_ext [ind0]

/-- The entry of the array that this position of the window holds. -/
theorem at0 (c : Dev nD) {b i h d : Nat} (hb : b < 2) (hi : i < 1024) (hh : h < 24) (hd : d < 128) :
    g3 (p := 16) (q := 3072) (r := 128) (V m c main_v1) (b * 8 + h / 3) (h % 3 * 1024 + i) d =
      g4 (p := 2) (q := 1024) (r := 24) (s := 128) (m ((c : Thread nD τ).loc main_arg0)) b i h d := by
  have e := (g3_ix (p := 16) (q := 3072) (r := 128) (V m c main_v1) ⟨b * 8 + h / 3, by omega⟩ ⟨h % 3 * 1024 + i, by omega⟩ ⟨d, hd⟩).symm.trans
    ((V0 m c _ _ _).trans (g4_ix (p := 2) (q := 1024) (r := 24) (s := 128) (m ((c : Thread nD τ).loc main_arg0)) _ _ _ _))
  refine e.trans ?_
  show g4 (m ((c : Thread nD τ).loc main_arg0)) ((b * 8 + h / 3) / 8) ((h % 3 * 1024 + i) % 1024) ((b * 8 + h / 3) % 8 * 3 + (h % 3 * 1024 + i) / 1024) d = _
  rw [show (b * 8 + h / 3) / 8 = b by omega, show (h % 3 * 1024 + i) % 1024 = i by omega,
    show (b * 8 + h / 3) % 8 * 3 + (h % 3 * 1024 + i) / 1024 = h by omega]

/-- Argument 1 as the region reads it. -/
theorem V1 (c : Dev nD) (n : Fin 16) (i : Fin 3072) (d : Fin 4) :
    V m c main_v3 (ix3 n i d) = m ((c : Thread nD τ).loc main_arg1)
      (ix4 ⟨n.val / 8, by omega⟩ ⟨i.val % 1024, by omega⟩ ⟨n.val % 8 * 3 + i.val / 1024, by omega⟩ d) := by
  have e : V m c main_v3 = shapeCast S16x3072x4 (transpose S2x24x1024x4 [0, 2, 1, 3] (m ((c : Thread nD τ).loc main_arg1)) transposes_S2x1024x24x4_S2x24x1024x4_0_2_1_3) shapeCasts_S2x24x1024x4_S16x3072x4 := by
    unfold V; after_results; rfl
  rw [e]
  pointwise []

/-- The block of the array that a grid point takes, by its coordinates. -/
theorem ind1 : ∀ t : Fin cfg0.N, win0_1.index t = ![0, 0, 0] := (by decide +kernel : ∀ t : Fin grid0.N, _)

/-- Window 1's block is the whole array. -/
theorem blk1 (c : Dev nD) (t : Fin cfg0.N) : iblk m c 1 t = V m c main_v3 := by
  funext x
  blk_simp [iblk]
  refine congrArg _ ?_
  blk_ext [ind1]

/-- The entry of the array that this position of the window holds. -/
theorem at1 (c : Dev nD) {b i h d : Nat} (hb : b < 2) (hi : i < 1024) (hh : h < 24) (hd : d < 4) :
    g3 (p := 16) (q := 3072) (r := 4) (V m c main_v3) (b * 8 + h / 3) (h % 3 * 1024 + i) d =
      g4 (p := 2) (q := 1024) (r := 24) (s := 4) (m ((c : Thread nD τ).loc main_arg1)) b i h d := by
  have e := (g3_ix (p := 16) (q := 3072) (r := 4) (V m c main_v3) ⟨b * 8 + h / 3, by omega⟩ ⟨h % 3 * 1024 + i, by omega⟩ ⟨d, hd⟩).symm.trans
    ((V1 m c _ _ _).trans (g4_ix (p := 2) (q := 1024) (r := 24) (s := 4) (m ((c : Thread nD τ).loc main_arg1)) _ _ _ _))
  refine e.trans ?_
  show g4 (m ((c : Thread nD τ).loc main_arg1)) ((b * 8 + h / 3) / 8) ((h % 3 * 1024 + i) % 1024) ((b * 8 + h / 3) % 8 * 3 + (h % 3 * 1024 + i) / 1024) d = _
  rw [show (b * 8 + h / 3) / 8 = b by omega, show (h % 3 * 1024 + i) % 1024 = i by omega,
    show (b * 8 + h / 3) % 8 * 3 + (h % 3 * 1024 + i) / 1024 = h by omega]

/-- Argument 2 as the region reads it. -/
theorem V2 (c : Dev nD) (n : Fin 16) (i : Fin 1024) (d : Fin 128) :
    V m c main_v5 (ix3 n i d) = m ((c : Thread nD τ).loc main_arg2)
      (ix4 ⟨n.val / 8, by omega⟩ i ⟨n.val % 8, by omega⟩ d) := by
  have e : V m c main_v5 = shapeCast S16x1024x128 (transpose S2x8x1024x128 [0, 2, 1, 3] (m ((c : Thread nD τ).loc main_arg2)) transposes_S2x1024x8x128_S2x8x1024x128_0_2_1_3) shapeCasts_S2x8x1024x128_S16x1024x128 := by
    unfold V; after_results; rfl
  rw [e]
  pointwise []

/-- The block of the array that a grid point takes, by its coordinates. -/
theorem ind2 : ∀ t : Fin cfg0.N, win0_2.index t = ![0, 0, 0] := (by decide +kernel : ∀ t : Fin grid0.N, _)

/-- Window 2's block is the whole array. -/
theorem blk2 (c : Dev nD) (t : Fin cfg0.N) : iblk m c 2 t = V m c main_v5 := by
  funext x
  blk_simp [iblk]
  refine congrArg _ ?_
  blk_ext [ind2]

/-- The entry of the array that this position of the window holds. -/
theorem at2 (c : Dev nD) {b i g d : Nat} (hb : b < 2) (hi : i < 1024) (hg : g < 8) (hd : d < 128) :
    g3 (p := 16) (q := 1024) (r := 128) (V m c main_v5) (b * 8 + g) i d =
      g4 (p := 2) (q := 1024) (r := 8) (s := 128) (m ((c : Thread nD τ).loc main_arg2)) b i g d := by
  have e := (g3_ix (p := 16) (q := 1024) (r := 128) (V m c main_v5) ⟨b * 8 + g, by omega⟩ ⟨i, hi⟩ ⟨d, hd⟩).symm.trans
    ((V2 m c _ _ _).trans (g4_ix (p := 2) (q := 1024) (r := 8) (s := 128) (m ((c : Thread nD τ).loc main_arg2)) _ _ _ _))
  refine e.trans ?_
  show g4 (m ((c : Thread nD τ).loc main_arg2)) ((b * 8 + g) / 8) i ((b * 8 + g) % 8) d = _
  rw [show (b * 8 + g) / 8 = b by omega, show (b * 8 + g) % 8 = g by omega]

/-- Argument 3 as the region reads it. -/
theorem V3 (c : Dev nD) (n : Fin 16) (i : Fin 1024) (d : Fin 4) :
    V m c main_v7 (ix3 n i d) = m ((c : Thread nD τ).loc main_arg3)
      (ix4 ⟨n.val / 8, by omega⟩ i ⟨n.val % 8, by omega⟩ d) := by
  have e : V m c main_v7 = shapeCast S16x1024x4 (transpose S2x8x1024x4 [0, 2, 1, 3] (m ((c : Thread nD τ).loc main_arg3)) transposes_S2x1024x8x4_S2x8x1024x4_0_2_1_3) shapeCasts_S2x8x1024x4_S16x1024x4 := by
    unfold V; after_results; rfl
  rw [e]
  pointwise []

/-- The block of the array that a grid point takes, by its coordinates. -/
theorem ind3 : ∀ t : Fin cfg0.N, win0_3.index t = ![0, 0, 0] := (by decide +kernel : ∀ t : Fin grid0.N, _)

/-- Window 3's block is the whole array. -/
theorem blk3 (c : Dev nD) (t : Fin cfg0.N) : iblk m c 3 t = V m c main_v7 := by
  funext x
  blk_simp [iblk]
  refine congrArg _ ?_
  blk_ext [ind3]

/-- The entry of the array that this position of the window holds. -/
theorem at3 (c : Dev nD) {b i g d : Nat} (hb : b < 2) (hi : i < 1024) (hg : g < 8) (hd : d < 4) :
    g3 (p := 16) (q := 1024) (r := 4) (V m c main_v7) (b * 8 + g) i d =
      g4 (p := 2) (q := 1024) (r := 8) (s := 4) (m ((c : Thread nD τ).loc main_arg3)) b i g d := by
  have e := (g3_ix (p := 16) (q := 1024) (r := 4) (V m c main_v7) ⟨b * 8 + g, by omega⟩ ⟨i, hi⟩ ⟨d, hd⟩).symm.trans
    ((V3 m c _ _ _).trans (g4_ix (p := 2) (q := 1024) (r := 8) (s := 4) (m ((c : Thread nD τ).loc main_arg3)) _ _ _ _))
  refine e.trans ?_
  show g4 (m ((c : Thread nD τ).loc main_arg3)) ((b * 8 + g) / 8) i ((b * 8 + g) % 8) d = _
  rw [show (b * 8 + g) / 8 = b by omega, show (b * 8 + g) % 8 = g by omega]

/-- Argument 4 as the region reads it. -/
theorem V4 (c : Dev nD) (n : Fin 16) (i : Fin 1024) (d : Fin 128) :
    V m c main_v9 (ix3 n i d) = m ((c : Thread nD τ).loc main_arg4)
      (ix4 ⟨n.val / 8, by omega⟩ i ⟨n.val % 8, by omega⟩ d) := by
  have e : V m c main_v9 = shapeCast S16x1024x128 (transpose S2x8x1024x128 [0, 2, 1, 3] (m ((c : Thread nD τ).loc main_arg4)) transposes_S2x1024x8x128_S2x8x1024x128_0_2_1_3) shapeCasts_S2x8x1024x128_S16x1024x128 := by
    unfold V; after_results; rfl
  rw [e]
  pointwise []

/-- The block of the array that a grid point takes, by its coordinates. -/
theorem ind4 : ∀ t : Fin cfg0.N, win0_4.index t = ![0, 0, 0] := (by decide +kernel : ∀ t : Fin grid0.N, _)

/-- Window 4's block is the whole array. -/
theorem blk4 (c : Dev nD) (t : Fin cfg0.N) : iblk m c 4 t = V m c main_v9 := by
  funext x
  blk_simp [iblk]
  refine congrArg _ ?_
  blk_ext [ind4]

/-- The entry of the array that this position of the window holds. -/
theorem at4 (c : Dev nD) {b i g d : Nat} (hb : b < 2) (hi : i < 1024) (hg : g < 8) (hd : d < 128) :
    g3 (p := 16) (q := 1024) (r := 128) (V m c main_v9) (b * 8 + g) i d =
      g4 (p := 2) (q := 1024) (r := 8) (s := 128) (m ((c : Thread nD τ).loc main_arg4)) b i g d := by
  have e := (g3_ix (p := 16) (q := 1024) (r := 128) (V m c main_v9) ⟨b * 8 + g, by omega⟩ ⟨i, hi⟩ ⟨d, hd⟩).symm.trans
    ((V4 m c _ _ _).trans (g4_ix (p := 2) (q := 1024) (r := 8) (s := 128) (m ((c : Thread nD τ).loc main_arg4)) _ _ _ _))
  refine e.trans ?_
  show g4 (m ((c : Thread nD τ).loc main_arg4)) ((b * 8 + g) / 8) i ((b * 8 + g) % 8) d = _
  rw [show (b * 8 + g) / 8 = b by omega, show (b * 8 + g) % 8 = g by omega]

/-- Argument 5 as the region reads it. -/
theorem V5 (c : Dev nD) (n : Fin 16) (i : Fin 32) (d : Fin 128) :
    V m c main_v11 (ix3 n i d) = m ((c : Thread nD τ).loc main_arg5)
      (ix4 ⟨n.val / 8, by omega⟩ i ⟨n.val % 8, by omega⟩ d) := by
  have e : V m c main_v11 = shapeCast S16x32x128 (transpose S2x8x32x128 [0, 2, 1, 3] (m ((c : Thread nD τ).loc main_arg5)) transposes_S2x32x8x128_S2x8x32x128_0_2_1_3) shapeCasts_S2x8x32x128_S16x32x128 := by
    unfold V; after_results; rfl
  rw [e]
  pointwise []

/-- The block of the array that a grid point takes, by its coordinates. -/
theorem ind5 : ∀ t : Fin cfg0.N, win0_5.index t = ![0, 0, 0] := (by decide +kernel : ∀ t : Fin grid0.N, _)

/-- Window 5's block is the whole array. -/
theorem blk5 (c : Dev nD) (t : Fin cfg0.N) : iblk m c 5 t = V m c main_v11 := by
  funext x
  blk_simp [iblk]
  refine congrArg _ ?_
  blk_ext [ind5]

/-- The entry of the array that this position of the window holds. -/
theorem at5 (c : Dev nD) {b i g d : Nat} (hb : b < 2) (hi : i < 32) (hg : g < 8) (hd : d < 128) :
    g3 (p := 16) (q := 32) (r := 128) (V m c main_v11) (b * 8 + g) i d =
      g4 (p := 2) (q := 32) (r := 8) (s := 128) (m ((c : Thread nD τ).loc main_arg5)) b i g d := by
  have e := (g3_ix (p := 16) (q := 32) (r := 128) (V m c main_v11) ⟨b * 8 + g, by omega⟩ ⟨i, hi⟩ ⟨d, hd⟩).symm.trans
    ((V5 m c _ _ _).trans (g4_ix (p := 2) (q := 32) (r := 8) (s := 128) (m ((c : Thread nD τ).loc main_arg5)) _ _ _ _))
  refine e.trans ?_
  show g4 (m ((c : Thread nD τ).loc main_arg5)) ((b * 8 + g) / 8) i ((b * 8 + g) % 8) d = _
  rw [show (b * 8 + g) / 8 = b by omega, show (b * 8 + g) % 8 = g by omega]

/-- The dequantised queries, keys and values at naturals. -/
theorem q_at (x : Vec Ideal S16x3072x128 .fp8e4m3) (s : Vec Ideal S16x3072x4 .i8) {n i d : Nat} (hn : n < 16) (hi : i < 3072) (hd : d < 128) :
    g3 (k0_pay2 x s) n i d = (g3 x n i d : EReal) * sc (g3 s n i (d / 32)) := by
  refine (g3_ix (k0_pay2 x s) ⟨n, hn⟩ ⟨i, hi⟩ ⟨d, hd⟩).symm.trans ((q_apply x s _ _ _).trans ?_)
  rw [g3_ix x, g3_ix s]

/-- An entry of the keys the body works with: its code times its block's scale. -/
theorem k_at (x : Vec Ideal S16x1024x128 .fp8e4m3) (s : Vec Ideal S16x1024x4 .i8) {n i d : Nat} (hn : n < 16) (hi : i < 1024) (hd : d < 128) :
    g3 (k0_pay3 x s) n i d = (g3 x n i d : EReal) * sc (g3 s n i (d / 32)) := by
  refine (g3_ix (k0_pay3 x s) ⟨n, hn⟩ ⟨i, hi⟩ ⟨d, hd⟩).symm.trans ((k_apply x s _ _ _).trans ?_)
  rw [g3_ix x, g3_ix s]

/-- An entry of the values the body works with: its code times its block's scale. -/
theorem v_at (x : Vec Ideal S16x1024x128 .fp8e4m3) (s : Vec Ideal S16x32x128 .i8) {n i d : Nat} (hn : n < 16) (hi : i < 1024) (hd : d < 128) :
    g3 (k0_pay6 (k0_pay4 x) (k0_pay5 s)) n i d = (g3 x n i d : EReal) * sc (g3 s n (i / 32) d) := by
  refine (g3_ix (k0_pay6 (k0_pay4 x) (k0_pay5 s)) ⟨n, hn⟩ ⟨i, hi⟩ ⟨d, hd⟩).symm.trans ((v_apply x s _ _ _).trans ?_)
  rw [g3_ix x, g3_ix s]

/-- The block of the array that a grid point takes, by its coordinates. -/
theorem ind6 : ∀ t : Fin cfg0.N, win0_6.index t = ![0, 0, 0] := (by decide +kernel : ∀ t : Fin grid0.N, _)

/-- The reference's result is the attention of its arguments, where every block scale is a code from 1 to 254. -/
theorem final (c : Dev nD) (h1 : ∀ i : S2x1024x24x4.Idx, Ok (m ((c : Thread nD τ).loc main_arg1) i))
    (h3 : ∀ i : S2x1024x8x4.Idx, Ok (m ((c : Thread nD τ).loc main_arg3) i)) (h5 : ∀ i : S2x32x8x128.Idx, Ok (m ((c : Thread nD τ).loc main_arg5) i)) :
    (dats m 0 c).arrAt 6 cfg0.N = fun j : S2x1024x3072.Idx =>
      T (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (j 0).val (j 1).val (j 2).val := by
  refine (dats m 0 c).arrAt_eq_of_covers 6 _ (by decide +kernel) fun t hf y => ?_
  blk_simp [ind6]
  rw [after0_6]
  unfold_out out0_6
  frame_out
  rw [blk0, blk1, blk2, blk3, blk4, blk5]
  obtain ⟨b, i, j, rfl⟩ : ∃ (b : Fin 2) (i : Fin 1024) (j : Fin 3072), y = ix3 b i j := ⟨_, _, _, eq_ix3 y⟩
  rw [ref_eq]
  have hb := b.isLt
  have hi := i.isLt
  have hj := j.isLt
  show _ = Cert.KernelIdeal.T _ _ _ _ _ _ b.val i.val j.val
  unfold Cert.KernelIdeal.T
  have e1 : b.val * 8 + j.val / 384 = b.val * 8 + j.val / 128 / 3 := by omega
  refine outS_congr (fun d hd => ?_) (fun k hk d hd => ?_) (fun k hk => ?_)
  · rw [q_at _ _ (by omega) (by omega) hd, e1, at0 m c hb hi (by omega) hd, at1 m c hb hi (by omega) (by omega)]
    exact congrArg _ (sc_eq _ (h1 _))
  · rw [k_at _ _ (by omega) hk hd, at2 m c hb hk (by omega) hd, at3 m c hb hk (by omega) (by omega)]
    exact congrArg _ (sc_eq _ (h3 _))
  · rw [v_at _ _ (by omega) hk (by omega), at4 m c hb hk (by omega) (by omega), at5 m c hb (by omega) (by omega) (by omega)]
    exact congrArg _ (sc_eq _ (h5 _))

end Cert.ReferenceIdeal.Elt

end
-- ==== Proof.Alg.lean ====
/- The value claim: over the reals the kernel and the reference leave the same result. -/
module

public import proofs.«01_k».proof.Defs
public import proofs.«01_k».proof.Proof.KFin1
public import proofs.«01_k».proof.Proof.RFin1

@[expose] public section

noncomputable section

namespace Cert.Proof

open Idealize.ShloMosaic Idealize.ShloMosaic.TcCoe

/-- What the precondition says of each of the kernel's three arrays of scales. -/
theorem scales [hP : Cert.Pre_scales_ok.Facts] (m : (ℓ : Loc Cert.KernelIdeal.nD Cert.KernelIdeal.τ Cert.KernelIdeal.sig) → Buf (Elt Ideal) ℓ)
    (h : Cert.Pre_KernelIdeal_scales_ok m) (c : Dev Cert.KernelIdeal.nD) :
    (∀ i, Cert.Pre_scales_ok.Ok (m ((c.tc : Thread Cert.KernelIdeal.nD Cert.KernelIdeal.τ).loc Cert.KernelIdeal.main_arg1) i)) ∧
    (∀ i, Cert.Pre_scales_ok.Ok (m ((c.tc : Thread Cert.KernelIdeal.nD Cert.KernelIdeal.τ).loc Cert.KernelIdeal.main_arg3) i)) ∧
    (∀ i, Cert.Pre_scales_ok.Ok (m ((c.tc : Thread Cert.KernelIdeal.nD Cert.KernelIdeal.τ).loc Cert.KernelIdeal.main_arg5) i)) :=
  Cert.Pre_scales_ok.fn_ok _ _ _ _ _ _ (fun a => a.elim0) (congrFun (h c) _)

/-- From equal arguments whose block scales are codes from 1 to 254, the kernel and the reference end with the same result. -/
theorem algebraic (hP : Cert.Pre_scales_ok.Facts) :
    Cert.algebraic_KernelIdeal_ReferenceIdeal_pre_scales_ok (hKernelIdeal := Cert.KernelIdeal.Gen.facts)
      (hReferenceIdeal := Cert.ReferenceIdeal.Gen.facts) (hPre_scales_ok := hP) := by
  intro m g m' g' hm he
  refine ⟨fun c => (Cert.KernelIdeal.dats m 0 c).arrAt 6 Cert.KernelIdeal.cfg0.N, Cert.KernelIdeal.run_blocks m g, ?_⟩
  refine (θ_run Cert.ReferenceIdeal.defs _ _).mono (fun r h c => ?_) (Cert.ReferenceIdeal.Value.run_blocks m' g')
  refine ⟨(h c).1.trans ?_, (h c).2⟩
  obtain ⟨e0, e1, e2, e3, e4, e5⟩ := he c
  obtain ⟨s1, s3, s5⟩ := scales m hm c
  rw [Cert.ReferenceIdeal.Elt.final m' c (by rw [e1]; exact s1) (by rw [e3]; exact s3) (by rw [e5]; exact s5), e0, e1, e2, e3, e4, e5]
  exact (Cert.KernelIdeal.final m c).symm

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.ReferenceIdeal.Value
public import proofs.«01_k».proof.Proof.Gen.Pre_scales_ok
public import proofs.«01_k».proof.Proof.Alg

@[expose] public section

noncomputable section

open Idealize.ShloMosaic

/-- Every claim of this certificate. -/
theorem Cert.Proof.claim : Cert.Claim :=
  ⟨Cert.Kernel.Gen.facts, Cert.KernelIdeal.Gen.facts, Cert.ReferenceIdeal.Gen.facts, Cert.Pre_scales_ok.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    IdealRules.named_const.statement Cert.KernelIdeal.κ "log2e_scale" .f32 0x3E0293EE#32
      (((Real.sqrt 128)⁻¹ * (Real.log 2)⁻¹ : ℝ) : EReal) rfl,
    Cert.Proof.algebraic Cert.Pre_scales_ok.Gen.facts⟩

end
